-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v76) = v0 c
          ∧ r.2.mem ((c.tc : Thread Cert.Reference3Ideal.nD Cert.Reference3Ideal.τ).loc Cert.Reference3Ideal.main_v63) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S4x8x4096x256 : Shape := ⟨4, ![4, 8, 4096, 256]⟩
abbrev S4x8x256x256 : Shape := ⟨4, ![4, 8, 256, 256]⟩
abbrev S4x8x128x4096 : Shape := ⟨4, ![4, 8, 128, 4096]⟩
abbrev S4x8x128x256 : Shape := ⟨4, ![4, 8, 128, 256]⟩
abbrev S_ : Shape := ⟨0, ![]⟩

class Facts : Prop where
  bitsLt_bf16_f32 : FTy.bits .bf16 < FTy.bits .f32
  bcast_S_S4x8x4096x256 : S_.BroadcastsInDim S4x8x4096x256 (![] : Fin 0 → Fin S4x8x4096x256.rank)
  reducesTo_S4x8x4096x256_S_d0_1_2_3 : S4x8x4096x256.ReducesTo [0, 1, 2, 3] S_
  h_S_ : 0 < S_.numel
  bcast_S_S4x8x256x256 : S_.BroadcastsInDim S4x8x256x256 (![] : Fin 0 → Fin S4x8x256x256.rank)
  reducesTo_S4x8x256x256_S_d0_1_2_3 : S4x8x256x256.ReducesTo [0, 1, 2, 3] S_

variable [Facts]

def fn {F : FTy → Type} [FloatOps F] (main_arg0 : FVec F S4x8x4096x256 .bf16) (main_arg1 : FVec F S4x8x4096x256 .bf16) (main_arg2 : FVec F S4x8x256x256 .bf16) (main_arg3 : FVec F S4x8x128x4096 .bf16) (main_arg4 : FVec F S4x8x128x256 .bf16) : IVec S_ 1 :=
  let main_v0 : FVec F S4x8x4096x256 .f32 := (extf .f32 · bitsLt_bf16_f32) main_arg0
  let main_v1 : FVec F S4x8x4096x256 .f32 := (extf .f32 · bitsLt_bf16_f32) main_arg1
  let main_v2 : FVec F S4x8x256x256 .f32 := (extf .f32 · bitsLt_bf16_f32) main_arg2
  let main_v3 : FVec F S4x8x4096x256 .f32 := Host.absf main_v0
  let main_cst : FVec F S_ .f32 := constant S_ .f32 0x7F800000#32
  let main_v4 : FVec F S4x8x4096x256 .f32 := broadcastInDim S4x8x4096x256 ![] bcast_S_S4x8x4096x256 main_cst
  let main_v5 : IVec S4x8x4096x256 1 := cmpf .olt main_v3 main_v4
  let main_c : IVec S_ 1 := constantI S_ 1 1#1
  let main_v6 : IVec S_ 1 := (fun x v => Host.reduce IntOp.andi x v reducesTo_S4x8x4096x256_S_d0_1_2_3 h_S_) main_v5 main_c
  let main_v7 : FVec F S4x8x4096x256 .f32 := Host.absf main_v1
  let main_cst_0 : FVec F S_ .f32 := constant S_ .f32 0x7F800000#32
  let main_v8 : FVec F S4x8x4096x256 .f32 := broadcastInDim S4x8x4096x256 ![] bcast_S_S4x8x4096x256 main_cst_0
  let main_v9 : IVec S4x8x4096x256 1 := cmpf .olt main_v7 main_v8
  let main_c_1 : IVec S_ 1 := constantI S_ 1 1#1
  let main_v10 : IVec S_ 1 := (fun x v => Host.reduce IntOp.andi x v reducesTo_S4x8x4096x256_S_d0_1_2_3 h_S_) main_v9 main_c_1
  let main_v11 : IVec S_ 1 := andi main_v6 main_v10
  let main_v12 : FVec F S4x8x256x256 .f32 := Host.absf main_v2
  let main_cst_2 : FVec F S_ .f32 := constant S_ .f32 0x7F800000#32
  let main_v13 : FVec F S4x8x256x256 .f32 := broadcastInDim S4x8x256x256 ![] bcast_S_S4x8x256x256 main_cst_2
  let main_v14 : IVec S4x8x256x256 1 := cmpf .olt main_v12 main_v13
  let main_c_3 : IVec S_ 1 := constantI S_ 1 1#1
  let main_v15 : IVec S_ 1 := (fun x v => Host.reduce IntOp.andi x v reducesTo_S4x8x256x256_S_d0_1_2_3 h_S_) main_v14 main_c_3
  let main_v16 : IVec S_ 1 := andi main_v11 main_v15
  main_v16
-- ==== Kernel.lean ====
abbrev S4x8x4096x256 : Shape := ⟨4, ![4, 8, 4096, 256]⟩
abbrev S4x8x256x256 : Shape := ⟨4, ![4, 8, 256, 256]⟩
abbrev S4x8x128x4096 : Shape := ⟨4, ![4, 8, 128, 4096]⟩
abbrev S4x8x128x256 : Shape := ⟨4, ![4, 8, 128, 256]⟩
abbrev S4x4096x1024 : Shape := ⟨3, ![4, 4096, 1024]⟩
abbrev S1x1x4096x256 : Shape := ⟨4, ![1, 1, 4096, 256]⟩
abbrev S1x1x1024x256 : Shape := ⟨4, ![1, 1, 1024, 256]⟩
abbrev S1x1x256x256 : Shape := ⟨4, ![1, 1, 256, 256]⟩
abbrev S1x1x128x4096 : Shape := ⟨4, ![1, 1, 128, 4096]⟩
abbrev S1x1x128x256 : Shape := ⟨4, ![1, 1, 128, 256]⟩
abbrev S1x4096x128 : Shape := ⟨3, ![1, 4096, 128]⟩
abbrev S4352x512 : Shape := ⟨2, ![4352, 512]⟩
abbrev S2x256x512 : Shape := ⟨3, ![2, 256, 512]⟩
abbrev S128x512 : Shape := ⟨2, ![128, 512]⟩
abbrev S8x512 : Shape := ⟨2, ![8, 512]⟩
abbrev S1x1x512x256 : Shape := ⟨4, ![1, 1, 512, 256]⟩
abbrev S512x256 : Shape := ⟨2, ![512, 256]⟩
abbrev S256x512 : Shape := ⟨2, ![256, 512]⟩
abbrev S1x256x512 : Shape := ⟨3, ![1, 256, 512]⟩
abbrev S256x256 : Shape := ⟨2, ![256, 256]⟩
abbrev S32x8x512 : Shape := ⟨3, ![32, 8, 512]⟩
abbrev S512 : Shape := ⟨1, ![512]⟩
abbrev S1x512 : Shape := ⟨2, ![1, 512]⟩
abbrev S128x256 : Shape := ⟨2, ![128, 256]⟩
abbrev S512x128 : Shape := ⟨2, ![512, 128]⟩
abbrev S1x512x128 : Shape := ⟨3, ![1, 512, 128]⟩

abbrev nBuf : Space → Nat
  | .hbm => 6
  | .vmem => 24
  | .smem => 0
  | _ => 0

abbrev bufTy : (tb : Table) → Fin (tcTables nBuf tb) → BufTy
  | .hbm, ⟨0, _⟩ => ⟨S4x8x4096x256, .bf16⟩
  | .hbm, ⟨1, _⟩ => ⟨S4x8x4096x256, .bf16⟩
  | .hbm, ⟨2, _⟩ => ⟨S4x8x256x256, .bf16⟩
  | .hbm, ⟨3, _⟩ => ⟨S4x8x128x4096, .bf16⟩
  | .hbm, ⟨4, _⟩ => ⟨S4x8x128x256, .bf16⟩
  | .hbm, ⟨5, _⟩ => ⟨S4x4096x1024, .bf16⟩
  | .local _ .vmem, ⟨0, _⟩ => ⟨S1x1x4096x256, .bf16⟩
  | .local _ .vmem, ⟨1, _⟩ => ⟨S1x1x4096x256, .bf16⟩
  | .local _ .vmem, ⟨2, _⟩ => ⟨S1x1x1024x256, .bf16⟩
  | .local _ .vmem, ⟨3, _⟩ => ⟨S1x1x1024x256, .bf16⟩
  | .local _ .vmem, ⟨4, _⟩ => ⟨S1x1x4096x256, .bf16⟩
  | .local _ .vmem, ⟨5, _⟩ => ⟨S1x1x4096x256, .bf16⟩
  | .local _ .vmem, ⟨6, _⟩ => ⟨S1x1x256x256, .bf16⟩
  | .local _ .vmem, ⟨7, _⟩ => ⟨S1x1x256x256, .bf16⟩
  | .local _ .vmem, ⟨8, _⟩ => ⟨S1x1x4096x256, .bf16⟩
  | .local _ .vmem, ⟨9, _⟩ => ⟨S1x1x4096x256, .bf16⟩
  | .local _ .vmem, ⟨10, _⟩ => ⟨S1x1x256x256, .bf16⟩
  | .local _ .vmem, ⟨11, _⟩ => ⟨S1x1x256x256, .bf16⟩
  | .local _ .vmem, ⟨12, _⟩ => ⟨S1x1x128x4096, .bf16⟩
  | .local _ .vmem, ⟨13, _⟩ => ⟨S1x1x128x4096, .bf16⟩
  | .local _ .vmem, ⟨14, _⟩ => ⟨S1x1x128x256, .bf16⟩
  | .local _ .vmem, ⟨15, _⟩ => ⟨S1x1x128x256, .bf16⟩
  | .local _ .vmem, ⟨16, _⟩ => ⟨S1x4096x128, .bf16⟩
  | .local _ .vmem, ⟨17, _⟩ => ⟨S1x4096x128, .bf16⟩
  | .local _ .vmem, ⟨18, _⟩ => ⟨S4352x512, .f32⟩
  | .local _ .vmem, ⟨19, _⟩ => ⟨S4352x512, .f32⟩
  | .local _ .vmem, ⟨20, _⟩ => ⟨S2x256x512, .bf16⟩
  | .local _ .vmem, ⟨21, _⟩ => ⟨S128x512, .f32⟩
  | .local _ .vmem, ⟨22, _⟩ => ⟨S8x512, .f32⟩
  | .local _ .vmem, ⟨23, _⟩ => ⟨S8x512, .f32⟩
  | _, _ => ⟨S4x8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_600 : BitVec 32 := 0#32
  c0_i32_600
def k0_mult2 : BitVec 32 :=
  let c512_i32_604 : BitVec 32 := 512#32
  c512_i32_604
@[reducible] def k0_t1_loop : Scf.Loop 32 :=
  let c0_i32_8 : BitVec 32 := 0#32
  let c6_i32 : BitVec 32 := 6#32
  let v14 : BitVec 32 := Scalar.addi c0_i32_8 c6_i32
  let c1_i32 : BitVec 32 := 1#32
  ⟨c0_i32_8, v14, c1_i32⟩
def k0_cond2 (k0_t1 : Fin k0_t1_loop.trips) : BitVec 1 :=
  let c0_i32_8 : BitVec 32 := 0#32
  let c1_i32 : BitVec 32 := 1#32
  let arg17 : BitVec 32 := Scf.iv c0_i32_8 c1_i32 k0_t1
  let c2_i32 : BitVec 32 := 2#32
  let c0_i32_600 : BitVec 32 := 0#32
  let v818 : BitVec 1 := Scalar.cmpi .eq c2_i32 c0_i32_600
  let c1_i32_601 : BitVec 32 := 1#32
  let v819 : BitVec 32 := Scalar.select v818 c1_i32_601 c2_i32
  let v820 : BitVec 32 := Scalar.remsi arg17 v819
  let c0_i32_603 : BitVec 32 := 0#32
  let v822 : BitVec 1 := Scalar.cmpi .slt v820 c0_i32_603
  let c0_i32_604 : BitVec 32 := 0#32
  let v823 : BitVec 1 := Scalar.cmpi .slt v819 c0_i32_604
  let v824 : BitVec 1 := Scalar.xori v822 v823
  let c0_i32_602 : BitVec 32 := 0#32
  let v821 : BitVec 1 := Scalar.cmpi .ne v820 c0_i32_602
  let v825 : BitVec 1 := Scalar.andi v824 v821
  let v826 : BitVec 32 := Scalar.addi v820 v819
  let v827 : BitVec 32 := Scalar.select v825 v826 v820
  let c0_i32_605 : BitVec 32 := 0#32
  let v828 : BitVec 1 := Scalar.cmpi .eq v827 c0_i32_605
  let v829 : BitVec 32 := Scalar.extui v828
  let c0_i32_606 : BitVec 32 := 0#32
  let v830 : BitVec 1 := Scalar.cmpi .ne v829 c0_i32_606
  v830

def k0_mult3 (k0_t1 : Fin k0_t1_loop.trips) : BitVec 32 :=
  let c0_i32_8 : BitVec 32 := 0#32
  let c1_i32 : BitVec 32 := 1#32
  let arg17 : BitVec 32 := Scf.iv c0_i32_8 c1_i32 k0_t1
  let c1_i32_641 : BitVec 32 := 1#32
  let v877 : BitVec 32 := Scalar.subi arg17 c1_i32_641
  let c0_i32_642 : BitVec 32 := 0#32
  let v878 : BitVec 32 := Scalar.maxsi v877 c0_i32_642
  let c512_i32_646 : BitVec 32 := 512#32
  let v882 : BitVec 32 := Scalar.muli v878 c512_i32_646
  v882
def k0_off1 (k0_t1 : Fin k0_t1_loop.trips) : Fin 3 → Nat :=
  let c0_649 : Index := 0#32
  let c0_i32_8 : BitVec 32 := 0#32
  let c1_i32 : BitVec 32 := 1#32
  let arg17 : BitVec 32 := Scf.iv c0_i32_8 c1_i32 k0_t1
  let c1_i32_641 : BitVec 32 := 1#32
  let v877 : BitVec 32 := Scalar.subi arg17 c1_i32_641
  let c0_i32_642 : BitVec 32 := 0#32
  let v878 : BitVec 32 := Scalar.maxsi v877 c0_i32_642
  let c512_i32_646 : BitVec 32 := 512#32
  let v882 : BitVec 32 := Scalar.muli v878 c512_i32_646
  let v883 : BitVec 32 := v882
  let v889 : Index := Scalar.indexCast v883
  let c0_650 : Index := 0#32
  ![0, v889.toNat, 0]
def k0_mult4 (k0_t1 : Fin k0_t1_loop.trips) : BitVec 32 :=
  let c0_i32_8 : BitVec 32 := 0#32
  let c1_i32 : BitVec 32 := 1#32
  let arg17 : BitVec 32 := Scf.iv c0_i32_8 c1_i32 k0_t1
  let c2_i32_763 : BitVec 32 := 2#32
  let v1040 : BitVec 32 := Scalar.addi arg17 c2_i32_763
  let c512_i32_764 : BitVec 32 := 512#32
  let v1041 : BitVec 32 := Scalar.muli v1040 c512_i32_764
  v1041
def k0_off2 (k0_t1 : Fin k0_t1_loop.trips) : Fin 4 → Nat :=
  let c0_765 : Index := 0#32
  let c0_766 : Index := 0#32
  let c0_i32_8 : BitVec 32 := 0#32
  let c1_i32 : BitVec 32 := 1#32
  let arg17 : BitVec 32 := Scf.iv c0_i32_8 c1_i32 k0_t1
  let c2_i32_763 : BitVec 32 := 2#32
  let v1040 : BitVec 32 := Scalar.addi arg17 c2_i32_763
  let c512_i32_764 : BitVec 32 := 512#32
  let v1041 : BitVec 32 := Scalar.muli v1040 c512_i32_764
  let v1042 : BitVec 32 := v1041
  let v1043 : Index := Scalar.indexCast v1042
  let c0_767 : Index := 0#32
  ![0, 0, v1043.toNat, 0]
def k0_mult5 (k0_t1 : Fin k0_t1_loop.trips) : BitVec 32 :=
  let c0_i32_8 : BitVec 32 := 0#32
  let c1_i32 : BitVec 32 := 1#32
  let arg17 : BitVec 32 := Scf.iv c0_i32_8 c1_i32 k0_t1
  let c1_i32_641 : BitVec 32 := 1#32
  let v877 : BitVec 32 := Scalar.subi arg17 c1_i32_641
  let c0_i32_642 : BitVec 32 := 0#32
  let v878 : BitVec 32 := Scalar.maxsi v877 c0_i32_642
  let c512_i32_646 : BitVec 32 := 512#32
  let v882 : BitVec 32 := Scalar.muli v878 c512_i32_646
  v882
def k0_off3 (k0_t1 : Fin k0_t1_loop.trips) : Fin 3 → Nat :=
  let c0_649 : Index := 0#32
  let c0_i32_8 : BitVec 32 := 0#32
  let c1_i32 : BitVec 32 := 1#32
  let arg17 : BitVec 32 := Scf.iv c0_i32_8 c1_i32 k0_t1
  let c1_i32_641 : BitVec 32 := 1#32
  let v877 : BitVec 32 := Scalar.subi arg17 c1_i32_641
  let c0_i32_642 : BitVec 32 := 0#32
  let v878 : BitVec 32 := Scalar.maxsi v877 c0_i32_642
  let c512_i32_646 : BitVec 32 := 512#32
  let v882 : BitVec 32 := Scalar.muli v878 c512_i32_646
  let v883 : BitVec 32 := v882
  let v889 : Index := Scalar.indexCast v883
  let c0_650 : Index := 0#32
  ![0, v889.toNat, 0]
def k0_mult6 (k0_t1 : Fin k0_t1_loop.trips) : BitVec 32 :=
  let c0_i32_8 : BitVec 32 := 0#32
  let c1_i32 : BitVec 32 := 1#32
  let arg17 : BitVec 32 := Scf.iv c0_i32_8 c1_i32 k0_t1
  let c2_i32_763 : BitVec 32 := 2#32
  let v1040 : BitVec 32 := Scalar.addi arg17 c2_i32_763
  let c512_i32_764 : BitVec 32 := 512#32
  let v1041 : BitVec 32 := Scalar.muli v1040 c512_i32_764
  v1041
def k0_off4 (k0_t1 : Fin k0_t1_loop.trips) : Fin 4 → Nat :=
  let c0_765 : Index := 0#32
  let c0_766 : Index := 0#32
  let c0_i32_8 : BitVec 32 := 0#32
  let c1_i32 : BitVec 32 := 1#32
  let arg17 : BitVec 32 := Scf.iv c0_i32_8 c1_i32 k0_t1
  let c2_i32_763 : BitVec 32 := 2#32
  let v1040 : BitVec 32 := Scalar.addi arg17 c2_i32_763
  let c512_i32_764 : BitVec 32 := 512#32
  let v1041 : BitVec 32 := Scalar.muli v1040 c512_i32_764
  let v1042 : BitVec 32 := v1041
  let v1043 : Index := Scalar.indexCast v1042
  let c0_767 : Index := 0#32
  ![0, 0, v1043.toNat, 0]
def k0_mult7 : BitVec 32 :=
  let c5_i32 : BitVec 32 := 5#32
  let c0_i32_42 : BitVec 32 := 0#32
  let v61 : BitVec 32 := Scalar.maxsi c5_i32 c0_i32_42
  let c512_i32 : BitVec 32 := 512#32
  let v65 : BitVec 32 := Scalar.muli v61 c512_i32
  v65
def k0_off5 (c5_i32 : BitVec 32) : Fin 3 → Nat :=
  let c0_48 : Index := 0#32
  let c0_i32_42 : BitVec 32 := 0#32
  let v61 : BitVec 32 := Scalar.maxsi c5_i32 c0_i32_42
  let c512_i32 : BitVec 32 := 512#32
  let v65 : BitVec 32 := Scalar.muli v61 c512_i32
  let v66 : BitVec 32 := v65
  let v72 : Index := Scalar.indexCast v66
  let c0_49 : Index := 0#32
  ![0, v72.toNat, 0]
def k0_mult8 : BitVec 32 :=
  let c6_i32_325 : BitVec 32 := 6#32
  let c0_i32_326 : BitVec 32 := 0#32
  let v454 : BitVec 32 := Scalar.maxsi c6_i32_325 c0_i32_326
  let c512_i32_330 : BitVec 32 := 512#32
  let v458 : BitVec 32 := Scalar.muli v454 c512_i32_330
  v458
def k0_mult9 : BitVec 32 :=
  let c3584_i32 : BitVec 32 := 3584#32
  c3584_i32
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.addi v1 c1_i32
  let c31_i32 : BitVec 32 := 31#32
  let v3 : BitVec 32 := Scalar.minsi v2 c31_i32
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c8_i32_6 : BitVec 32 := 8#32
  let c0_i32_7 : BitVec 32 := 0#32
  let v21 : BitVec 1 := Scalar.cmpi .eq c8_i32_6 c0_i32_7
  let c1_i32_8 : BitVec 32 := 1#32
  let v22 : BitVec 32 := Scalar.select v21 c1_i32_8 c8_i32_6
  let v23 : BitVec 32 := Scalar.remsi v3 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  let c0_i32_14 : BitVec 32 := 0#32
  ![v20.toNat, v30.toNat, c0_i32_12.toNat, c0_i32_13.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.addi v1 c1_i32
  let c31_i32 : BitVec 32 := 31#32
  let v3 : BitVec 32 := Scalar.minsi v2 c31_i32
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c8_i32_6 : BitVec 32 := 8#32
  let c0_i32_7 : BitVec 32 := 0#32
  let v21 : BitVec 1 := Scalar.cmpi .eq c8_i32_6 c0_i32_7
  let c1_i32_8 : BitVec 32 := 1#32
  let v22 : BitVec 32 := Scalar.select v21 c1_i32_8 c8_i32_6
  let v23 : BitVec 32 := Scalar.remsi v3 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  let c0_i32_14 : BitVec 32 := 0#32
  ![v20.toNat, v30.toNat, c0_i32_12.toNat, c0_i32_13.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.addi v1 c1_i32
  let c31_i32 : BitVec 32 := 31#32
  let v3 : BitVec 32 := Scalar.minsi v2 c31_i32
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c8_i32_6 : BitVec 32 := 8#32
  let c0_i32_7 : BitVec 32 := 0#32
  let v21 : BitVec 1 := Scalar.cmpi .eq c8_i32_6 c0_i32_7
  let c1_i32_8 : BitVec 32 := 1#32
  let v22 : BitVec 32 := Scalar.select v21 c1_i32_8 c8_i32_6
  let v23 : BitVec 32 := Scalar.remsi v3 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  let c0_i32_14 : BitVec 32 := 0#32
  ![v20.toNat, v30.toNat, c0_i32_12.toNat, c0_i32_13.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x8x4096x256 : Shape := ⟨4, ![4, 8, 4096, 256]⟩
abbrev S4x8x256x256 : Shape := ⟨4, ![4, 8, 256, 256]⟩
abbrev S4x8x128x4096 : Shape := ⟨4, ![4, 8, 128, 4096]⟩
abbrev S4x8x128x256 : Shape := ⟨4, ![4, 8, 128, 256]⟩
abbrev S4x8x4352x256 : Shape := ⟨4, ![4, 8, 4352, 256]⟩
abbrev S4x8x128x4352 : Shape := ⟨4, ![4, 8, 128, 4352]⟩
abbrev S4x8x4096x4352 : Shape := ⟨4, ![4, 8, 4096, 4352]⟩
abbrev S_ : Shape := ⟨0, ![]⟩
abbrev S4x8x4096 : Shape := ⟨3, ![4, 8, 4096]⟩
abbrev S4x8x4096x1 : Shape := ⟨4, ![4, 8, 4096, 1]⟩
abbrev S4x4096x8x128 : Shape := ⟨4, ![4, 4096, 8, 128]⟩
abbrev S4x4096x1024 : Shape := ⟨3, ![4, 4096, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x8x4096x256, .bf16⟩
  | .hbm, ⟨1, _⟩ => ⟨S4x8x4096x256, .bf16⟩
  | .hbm, ⟨2, _⟩ => ⟨S4x8x256x256, .bf16⟩
  | .hbm, ⟨3, _⟩ => ⟨S4x8x128x4096, .bf16⟩
  | .hbm, ⟨4, _⟩ => ⟨S4x8x128x256, .bf16⟩
  | .hbm, ⟨5, _⟩ => ⟨S4x8x4096x256, .f32⟩
  | .hbm, ⟨6, _⟩ => ⟨S4x8x4096x256, .f32⟩
  | .hbm, ⟨7, _⟩ => ⟨S4x8x256x256, .f32⟩
  | .hbm, ⟨8, _⟩ => ⟨S4x8x128x4096, .f32⟩
  | .hbm, ⟨9, _⟩ => ⟨S4x8x128x256, .f32⟩
  | .hbm, ⟨10, _⟩ => ⟨S4x8x4352x256, .f32⟩
  | .hbm, ⟨11, _⟩ => ⟨S4x8x128x4352, .f32⟩
  | .hbm, ⟨12, _⟩ => ⟨S4x8x4096x4352, .f32⟩
  | .hbm, ⟨13, _⟩ => ⟨S_, .f32⟩
  | .hbm, ⟨14, _⟩ => ⟨S_, .f32⟩
  | .hbm, ⟨15, _⟩ => ⟨S4x8x4096x4352, .f32⟩
  | .hbm, ⟨16, _⟩ => ⟨S4x8x4096x4352, .f32⟩
  | .hbm, ⟨17, _⟩ => ⟨S_, .f32⟩
  | .hbm, ⟨18, _⟩ => ⟨S4x8x4096, .f32⟩
  | .hbm, ⟨19, _⟩ => ⟨S_, .f32⟩
  | .hbm, ⟨20, _⟩ => ⟨S4x8x4096, .f32⟩
  | .hbm, ⟨21, _⟩ => ⟨S4x8x4096, .f32⟩
  | .hbm, ⟨22, _⟩ => ⟨S4x8x4096x1, .f32⟩
  | .hbm, ⟨23, _⟩ => ⟨S4x8x4096x4352, .f32⟩
  | .hbm, ⟨24, _⟩ => ⟨S4x8x4096x4352, .f32⟩
  | .hbm, ⟨25, _⟩ => ⟨S4x8x4096x4352, .f32⟩
  | .hbm, ⟨26, _⟩ => ⟨S_, .f32⟩
  | .hbm, ⟨27, _⟩ => ⟨S4x8x4096, .f32⟩
  | .hbm, ⟨28, _⟩ => ⟨S4x8x4096x1, .f32⟩
  | .hbm, ⟨29, _⟩ => ⟨S4x8x4096x4352, .f32⟩
  | .hbm, ⟨30, _⟩ => ⟨S4x8x4096x4352, .f32⟩
  | .hbm, ⟨31, _⟩ => ⟨S4x8x128x4096, .f32⟩
  | .hbm, ⟨32, _⟩ => ⟨S4x4096x8x128, .f32⟩
  | .hbm, ⟨33, _⟩ => ⟨S4x4096x1024, .f32⟩
  | .hbm, ⟨34, _⟩ => ⟨S4x4096x1024, .bf16⟩
  | _, _ => ⟨S4x8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel2.lean ====
abbrev S17408x1024 : Shape := ⟨2, ![17408, 1024]⟩
abbrev S16384x1024 : Shape := ⟨2, ![16384, 1024]⟩
abbrev S1024x1024 : Shape := ⟨2, ![1024, 1024]⟩
abbrev S8x6x1024 : Shape := ⟨3, ![8, 6, 1024]⟩
abbrev S1x1024 : Shape := ⟨2, ![1, 1024]⟩
abbrev S2x1024x5632 : Shape := ⟨3, ![2, 1024, 5632]⟩
abbrev S2x2816x1024 : Shape := ⟨3, ![2, 2816, 1024]⟩
abbrev S512x1024 : Shape := ⟨2, ![512, 1024]⟩
abbrev S1x6x1024 : Shape := ⟨3, ![1, 6, 1024]⟩
abbrev S1x1024x5632 : Shape := ⟨3, ![1, 1024, 5632]⟩
abbrev S1x2816x1024 : Shape := ⟨3, ![1, 2816, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1x1024x1536 : Shape := ⟨3, ![1, 1024, 1536]⟩
abbrev S1024x1536 : Shape := ⟨2, ![1024, 1536]⟩
abbrev S256x1536 : Shape := ⟨2, ![256, 1536]⟩
abbrev S1x1024x1280 : Shape := ⟨3, ![1, 1024, 1280]⟩
abbrev S1024x1280 : Shape := ⟨2, ![1024, 1280]⟩
abbrev S256x1280 : Shape := ⟨2, ![256, 1280]⟩
abbrev S1x1536x1024 : Shape := ⟨3, ![1, 1536, 1024]⟩
abbrev S1536x1024 : Shape := ⟨2, ![1536, 1024]⟩
abbrev S1x1280x1024 : Shape := ⟨3, ![1, 1280, 1024]⟩
abbrev S1280x1024 : Shape := ⟨2, ![1280, 1024]⟩

abbrev nBuf : Space → Nat
  | .hbm => 9
  | .vmem => 13
  | .smem => 0
  | _ => 0

abbrev bufTy : (tb : Table) → Fin (tcTables nBuf tb) → BufTy
  | .hbm, ⟨0, _⟩ => ⟨S17408x1024, .f32⟩
  | .hbm, ⟨1, _⟩ => ⟨S16384x1024, .bf16⟩
  | .hbm, ⟨2, _⟩ => ⟨S1024x1024, .bf16⟩
  | .hbm, ⟨3, _⟩ => ⟨S8x6x1024, .f32⟩
  | .hbm, ⟨4, _⟩ => ⟨S1x1024, .f32⟩
  | .hbm, ⟨5, _⟩ => ⟨S2x1024x5632, .bf16⟩
  | .hbm, ⟨6, _⟩ => ⟨S2x2816x1024, .bf16⟩
  | .hbm, ⟨7, _⟩ => ⟨S1x1024, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x6x1024, .f32⟩
  | .local _ .vmem, ⟨6, _⟩ => ⟨S1x6x1024, .f32⟩
  | .local _ .vmem, ⟨7, _⟩ => ⟨S1x1024, .f32⟩
  | .local _ .vmem, ⟨8, _⟩ => ⟨S1x1024x5632, .bf16⟩
  | .local _ .vmem, ⟨9, _⟩ => ⟨S1x2816x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S17408x1024 : Shape := ⟨2, ![17408, 1024]⟩
abbrev S16384x1024 : Shape := ⟨2, ![16384, 1024]⟩
abbrev S1024x1024 : Shape := ⟨2, ![1024, 1024]⟩
abbrev S8x6x1024 : Shape := ⟨3, ![8, 6, 1024]⟩
abbrev S1x1024 : Shape := ⟨2, ![1, 1024]⟩
abbrev S2x1024x5632 : Shape := ⟨3, ![2, 1024, 5632]⟩
abbrev S2x2816x1024 : Shape := ⟨3, ![2, 2816, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S4x4096x1024 : Shape := ⟨3, ![4, 4096, 1024]⟩
abbrev S4x6x1024 : Shape := ⟨3, ![4, 6, 1024]⟩
abbrev S4x6x1x1024 : Shape := ⟨4, ![4, 6, 1, 1024]⟩
abbrev S4x1x1x1024 : Shape := ⟨4, ![4, 1, 1, 1024]⟩
abbrev S4x1x1024 : Shape := ⟨3, ![4, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩

abbrev nBuf : Space → Nat
  | .hbm => 95
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S16384x1024, .bf16⟩
  | .hbm, ⟨2, _⟩ => ⟨S1024x1024, .bf16⟩
  | .hbm, ⟨3, _⟩ => ⟨S8x6x1024, .f32⟩
  | .hbm, ⟨4, _⟩ => ⟨S1x1024, .f32⟩
  | .hbm, ⟨5, _⟩ => ⟨S2x1024x5632, .bf16⟩
  | .hbm, ⟨6, _⟩ => ⟨S2x2816x1024, .bf16⟩
  | .hbm, ⟨7, _⟩ => ⟨S1x1024, .f32⟩
  | .hbm, ⟨8, _⟩ => ⟨S1x1024x5632, .bf16⟩
  | .hbm, ⟨9, _⟩ => ⟨S1024x5632, .bf16⟩
  | .hbm, ⟨10, _⟩ => ⟨S1x2816x1024, .bf16⟩
  | .hbm, ⟨11, _⟩ => ⟨S2816x1024, .bf16⟩
  | .hbm, ⟨12, _⟩ => ⟨S16384x1024, .f32⟩
  | .hbm, ⟨13, _⟩ => ⟨S1024x1024, .f32⟩
  | .hbm, ⟨14, _⟩ => ⟨S1024x5632, .f32⟩
  | .hbm, ⟨15, _⟩ => ⟨S2816x1024, .f32⟩
  | .hbm, ⟨16, _⟩ => ⟨S16384x1024, .f32⟩
  | .hbm, ⟨17, _⟩ => ⟨S4x4096x1024, .f32⟩
  | .hbm, ⟨18, _⟩ => ⟨S4x6x1024, .f32⟩
  | .hbm, ⟨19, _⟩ => ⟨S4x6x1x1024, .f32⟩
  | .hbm, ⟨20, _⟩ => ⟨S4x1x1x1024, .f32⟩
  | .hbm, ⟨21, _⟩ => ⟨S4x1x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S1024, .f32⟩
  | .hbm, ⟨28, _⟩ => ⟨S4x4096x1024, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x1, .f32⟩
  | .hbm, ⟨39, _⟩ => ⟨S4x4096x1024, .f32⟩
  | .hbm, ⟨40, _⟩ => ⟨S4x4096x1024, .f32⟩
  | .hbm, ⟨41, _⟩ => ⟨S1x1x1024, .f32⟩
  | .hbm, ⟨42, _⟩ => ⟨S4x4096x1024, .f32⟩
  | .hbm, ⟨43, _⟩ => ⟨S4x4096x1024, .f32⟩
  | .hbm, ⟨44, _⟩ => ⟨S4x1x1x1024, .f32⟩
  | .hbm, ⟨45, _⟩ => ⟨S4x1x1024, .f32⟩
  | .hbm, ⟨46, _⟩ => ⟨S_, .f32⟩
  | .hbm, ⟨47, _⟩ => ⟨S4x1x1024, .f32⟩
  | .hbm, ⟨48, _⟩ => ⟨S4x1x1024, .f32⟩
  | .hbm, ⟨49, _⟩ => ⟨S4x4096x1024, .f32⟩
  | .hbm, ⟨50, _⟩ => ⟨S4x4096x1024, .f32⟩
  | .hbm, ⟨51, _⟩ => ⟨S4x1x1x1024, .f32⟩
  | .hbm, ⟨52, _⟩ => ⟨S4x1x1024, .f32⟩
  | .hbm, ⟨53, _⟩ => ⟨S4x4096x1024, .f32⟩
  | .hbm, ⟨54, _⟩ => ⟨S4x4096x1024, .f32⟩
  | .hbm, ⟨55, _⟩ => ⟨S4x4096x5632, .f32⟩
  | .hbm, ⟨56, _⟩ => ⟨S4x4096x2816, .f32⟩
  | .hbm, ⟨57, _⟩ => ⟨S4x4096x2816, .f32⟩
  | .hbm, ⟨58, _⟩ => ⟨S4x1x1x1024, .f32⟩
  | .hbm, ⟨59, _⟩ => ⟨S4x1x1024, .f32⟩
  | .hbm, ⟨60, _⟩ => ⟨S_, .f32⟩
  | .hbm, ⟨61, _⟩ => ⟨S4x4096x2816, .f32⟩
  | .hbm, ⟨62, _⟩ => ⟨S4x4096x2816, .f32⟩
  | .hbm, ⟨63, _⟩ => ⟨S4x4096x2816, .f32⟩
  | .hbm, ⟨64, _⟩ => ⟨S4x4096x2816, .f32⟩
  | .hbm, ⟨65, _⟩ => ⟨S_, .f32⟩
  | .hbm, ⟨66, _⟩ => ⟨S4x4096x2816, .f32⟩
  | .hbm, ⟨67, _⟩ => ⟨S4x4096x2816, .f32⟩
  | .hbm, ⟨68, _⟩ => ⟨S_, .f32⟩
  | .hbm, ⟨69, _⟩ => ⟨S4x4096x2816, .f32⟩
  | .hbm, ⟨70, _⟩ => ⟨S4x4096x2816, .f32⟩
  | .hbm, ⟨71, _⟩ => ⟨S4x4096x2816, .f32⟩
  | .hbm, ⟨72, _⟩ => ⟨S4x4096x2816, .f32⟩
  | .hbm, ⟨73, _⟩ => ⟨S4x4096x1024, .f32⟩
  | .hbm, ⟨74, _⟩ => ⟨S4x4096x1024, .f32⟩
  | .hbm, ⟨75, _⟩ => ⟨S4x4096x1024, .f32⟩
  | .hbm, ⟨76, _⟩ => ⟨S4x4096x1024, .f32⟩
  | .hbm, ⟨77, _⟩ => ⟨S1024, .f32⟩
  | .hbm, ⟨78, _⟩ => ⟨S4x4096x1024, .f32⟩
  | .hbm, ⟨79, _⟩ => ⟨S_, .f32⟩
  | .hbm, ⟨80, _⟩ => ⟨S4x4096, .f32⟩
  | .hbm, ⟨81, _⟩ => ⟨S4x4096x1, .f32⟩
  | .hbm, ⟨82, _⟩ => ⟨S_, .f32⟩
  | .hbm, ⟨83, _⟩ => ⟨S4x4096x1, .f32⟩
  | .hbm, ⟨84, _⟩ => ⟨S4x4096x1, .f32⟩
  | .hbm, ⟨85, _⟩ => ⟨S_, .f32⟩
  | .hbm, ⟨86, _⟩ => ⟨S4x4096x1, .f32⟩
  | .hbm, ⟨87, _⟩ => ⟨S4x4096x1, .f32⟩
  | .hbm, ⟨88, _⟩ => ⟨S4x4096x1, .f32⟩
  | .hbm, ⟨89, _⟩ => ⟨S4x4096x1024, .f32⟩
  | .hbm, ⟨90, _⟩ => ⟨S4x4096x1024, .f32⟩
  | .hbm, ⟨91, _⟩ => ⟨S1x1x1024, .f32⟩
  | .hbm, ⟨92, _⟩ => ⟨S4x4096x1024, .f32⟩
  | .hbm, ⟨93, _⟩ => ⟨S4x4096x1024, .f32⟩
  | .hbm, ⟨94, _⟩ => ⟨S16384x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_3 : Ref sig .tc := ⟨.hbm, 60, rfl⟩
abbrev main_v48 : Ref sig .tc := ⟨.hbm, 61, rfl⟩
abbrev main_v49 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_4 : Ref sig .tc := ⟨.hbm, 79, rfl⟩
abbrev main_v58 : Ref sig .tc := ⟨.hbm, 80, rfl⟩
abbrev main_v59 : Ref sig .tc := ⟨.hbm, 81, rfl⟩
abbrev main_cst_5 : Ref sig .tc := ⟨.hbm, 82, rfl⟩
abbrev main_v60 : Ref sig .tc := ⟨.hbm, 83, rfl⟩
abbrev main_v61 : Ref sig .tc := ⟨.hbm, 84, rfl⟩
abbrev main_cst_6 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]
-- ==== Kernel3.lean ====
abbrev S1024x1024 : Shape := ⟨2, ![1024, 1024]⟩
abbrev S16384x1024 : Shape := ⟨2, ![16384, 1024]⟩
abbrev S1x1024 : Shape := ⟨2, ![1, 1024]⟩
abbrev S8x6x1024 : Shape := ⟨3, ![8, 6, 1024]⟩
abbrev S1024x2048 : Shape := ⟨2, ![1024, 2048]⟩
abbrev S17408x1024 : Shape := ⟨2, ![17408, 1024]⟩
abbrev S1x6x1024 : Shape := ⟨3, ![1, 6, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x2048 : Shape := ⟨2, ![256, 2048]⟩

abbrev nBuf : Space → Nat
  | .hbm => 7
  | .vmem => 12
  | .smem => 0
  | _ => 0

abbrev bufTy : (tb : Table) → Fin (tcTables nBuf tb) → BufTy
  | .hbm, ⟨0, _⟩ => ⟨S1024x1024, .f32⟩
  | .hbm, ⟨1, _⟩ => ⟨S16384x1024, .f32⟩
  | .hbm, ⟨2, _⟩ => ⟨S1x1024, .f32⟩
  | .hbm, ⟨3, _⟩ => ⟨S8x6x1024, .f32⟩
  | .hbm, ⟨4, _⟩ => ⟨S1024x2048, .bf16⟩
  | .hbm, ⟨5, _⟩ => ⟨S17408x1024, .f32⟩
  | .hbm, ⟨6, _⟩ => ⟨S17408x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x6x1024, .f32⟩
  | .local _ .vmem, ⟨6, _⟩ => ⟨S1x6x1024, .f32⟩
  | .local _ .vmem, ⟨7, _⟩ => ⟨S1024x2048, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 1 := Scalar.cmpi .slt arg0 c1_i32
  let c1_i32_0 : BitVec 32 := 1#32
  let v1 : BitVec 32 := Scalar.subi arg0 c1_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let v19 : BitVec 32 := Scalar.select v0 c4_i32_6 v18
  let c0_i32_7 : BitVec 32 := 0#32
  let c0_i32_8 : BitVec 32 := 0#32
  let c0_i32_9 : BitVec 32 := 0#32
  ![v19.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S1024x1024 : Shape := ⟨2, ![1024, 1024]⟩
abbrev S16384x1024 : Shape := ⟨2, ![16384, 1024]⟩
abbrev S1x1024 : Shape := ⟨2, ![1, 1024]⟩
abbrev S8x6x1024 : Shape := ⟨3, ![8, 6, 1024]⟩
abbrev S1024x2048 : Shape := ⟨2, ![1024, 2048]⟩
abbrev S4x6x1024 : Shape := ⟨3, ![4, 6, 1024]⟩
abbrev S4x6x1x1024 : Shape := ⟨4, ![4, 6, 1, 1024]⟩
abbrev S1x6x1024 : Shape := ⟨3, ![1, 6, 1024]⟩
abbrev S6x1024 : Shape := ⟨2, ![6, 1024]⟩
abbrev S4x4096x1024 : Shape := ⟨3, ![4, 4096, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1x1024 : Shape := ⟨4, ![4, 1, 1, 1024]⟩
abbrev S4x1x1024 : Shape := ⟨3, ![4, 1, 1024]⟩
abbrev S4x256x1024 : Shape := ⟨3, ![4, 256, 1024]⟩
abbrev S4x256 : Shape := ⟨2, ![4, 256]⟩
abbrev S4x256x1 : Shape := ⟨3, ![4, 256, 1]⟩
abbrev S4x256x2048 : Shape := ⟨3, ![4, 256, 2048]⟩
abbrev S4x4096x2048 : Shape := ⟨3, ![4, 4096, 2048]⟩
abbrev S16384x2048 : Shape := ⟨2, ![16384, 2048]⟩
abbrev S17408x2048 : Shape := ⟨2, ![17408, 2048]⟩
abbrev S17408x1024 : Shape := ⟨2, ![17408, 1024]⟩

abbrev nBuf : Space → Nat
  | .hbm => 94
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S16384x1024, .f32⟩
  | .hbm, ⟨2, _⟩ => ⟨S1x1024, .f32⟩
  | .hbm, ⟨3, _⟩ => ⟨S8x6x1024, .f32⟩
  | .hbm, ⟨4, _⟩ => ⟨S1024x2048, .bf16⟩
  | .hbm, ⟨5, _⟩ => ⟨S1024x2048, .f32⟩
  | .hbm, ⟨6, _⟩ => ⟨S4x6x1024, .f32⟩
  | .hbm, ⟨7, _⟩ => ⟨S4x6x1x1024, .f32⟩
  | .hbm, ⟨8, _⟩ => ⟨S1x6x1024, .f32⟩
  | .hbm, ⟨9, _⟩ => ⟨S6x1024, .f32⟩
  | .hbm, ⟨10, _⟩ => ⟨S4x4096x1024, .f32⟩
  | .hbm, ⟨11, _⟩ => ⟨S1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S4x1x1x1024, .f32⟩
  | .hbm, ⟨29, _⟩ => ⟨S4x1x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x4096x1024, .f32⟩
  | .hbm, ⟨34, _⟩ => ⟨S4x4096x1024, .f32⟩
  | .hbm, ⟨35, _⟩ => ⟨S4x1x1x1024, .f32⟩
  | .hbm, ⟨36, _⟩ => ⟨S4x1x1024, .f32⟩
  | .hbm, ⟨37, _⟩ => ⟨S4x4096x1024, .f32⟩
  | .hbm, ⟨38, _⟩ => ⟨S4x4096x1024, .f32⟩
  | .hbm, ⟨39, _⟩ => ⟨S4x256x1024, .f32⟩
  | .hbm, ⟨40, _⟩ => ⟨S1024, .f32⟩
  | .hbm, ⟨41, _⟩ => ⟨S4x256x1024, .f32⟩
  | .hbm, ⟨42, _⟩ => ⟨S_, .f32⟩
  | .hbm, ⟨43, _⟩ => ⟨S4x256, .f32⟩
  | .hbm, ⟨44, _⟩ => ⟨S4x256x1, .f32⟩
  | .hbm, ⟨45, _⟩ => ⟨S_, .f32⟩
  | .hbm, ⟨46, _⟩ => ⟨S4x256x1, .f32⟩
  | .hbm, ⟨47, _⟩ => ⟨S4x256x1, .f32⟩
  | .hbm, ⟨48, _⟩ => ⟨S_, .f32⟩
  | .hbm, ⟨49, _⟩ => ⟨S4x256x1, .f32⟩
  | .hbm, ⟨50, _⟩ => ⟨S4x256x1, .f32⟩
  | .hbm, ⟨51, _⟩ => ⟨S4x256x1, .f32⟩
  | .hbm, ⟨52, _⟩ => ⟨S4x256x1024, .f32⟩
  | .hbm, ⟨53, _⟩ => ⟨S4x256x1024, .f32⟩
  | .hbm, ⟨54, _⟩ => ⟨S1x1x1024, .f32⟩
  | .hbm, ⟨55, _⟩ => ⟨S4x256x1024, .f32⟩
  | .hbm, ⟨56, _⟩ => ⟨S4x256x1024, .f32⟩
  | .hbm, ⟨57, _⟩ => ⟨S1x1024, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S1x1x1024, .f32⟩
  | .hbm, ⟨63, _⟩ => ⟨S4x256x1024, .f32⟩
  | .hbm, ⟨64, _⟩ => ⟨S4x256x1024, .f32⟩
  | .hbm, ⟨65, _⟩ => ⟨S1x1024, .f32⟩
  | .hbm, ⟨66, _⟩ => ⟨S1024, .f32⟩
  | .hbm, ⟨67, _⟩ => ⟨S1x1x1024, .f32⟩
  | .hbm, ⟨68, _⟩ => ⟨S4x256x1024, .f32⟩
  | .hbm, ⟨69, _⟩ => ⟨S4x256x1024, .f32⟩
  | .hbm, ⟨70, _⟩ => ⟨S4x256x2048, .f32⟩
  | .hbm, ⟨71, _⟩ => ⟨S1024x2048, .f32⟩
  | .hbm, ⟨72, _⟩ => ⟨S4x4096x2048, .f32⟩
  | .hbm, ⟨73, _⟩ => ⟨S16384x2048, .f32⟩
  | .hbm, ⟨74, _⟩ => ⟨S17408x2048, .f32⟩
  | .hbm, ⟨75, _⟩ => ⟨S17408x1024, .f32⟩
  | .hbm, ⟨76, _⟩ => ⟨S17408x1024, .f32⟩
  | .hbm, ⟨77, _⟩ => ⟨S17408x1024, .f32⟩
  | .hbm, ⟨78, _⟩ => ⟨S17408x1024, .f32⟩
  | .hbm, ⟨79, _⟩ => ⟨S_, .f32⟩
  | .hbm, ⟨80, _⟩ => ⟨S17408x1024, .f32⟩
  | .hbm, ⟨81, _⟩ => ⟨S17408x1024, .f32⟩
  | .hbm, ⟨82, _⟩ => ⟨S17408x1024, .f32⟩
  | .hbm, ⟨83, _⟩ => ⟨S_, .f32⟩
  | .hbm, ⟨84, _⟩ => ⟨S17408x1024, .f32⟩
  | .hbm, ⟨85, _⟩ => ⟨S17408x1024, .f32⟩
  | .hbm, ⟨86, _⟩ => ⟨S17408x1024, .f32⟩
  | .hbm, ⟨87, _⟩ => ⟨S_, .f32⟩
  | .hbm, ⟨88, _⟩ => ⟨S17408x1024, .f32⟩
  | .hbm, ⟨89, _⟩ => ⟨S17408x1024, .f32⟩
  | .hbm, ⟨90, _⟩ => ⟨S_, .f32⟩
  | .hbm, ⟨91, _⟩ => ⟨S17408x1024, .f32⟩
  | .hbm, ⟨92, _⟩ => ⟨S17408x1024, .f32⟩
  | .hbm, ⟨93, _⟩ => ⟨S17408x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_7 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_8 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_9 : Ref sig .tc := ⟨.hbm, 87, rfl⟩
abbrev main_v72 : Ref sig .tc := ⟨.hbm, 88, rfl⟩
abbrev main_v73 : Ref sig .tc := ⟨.hbm, 89, rfl⟩
abbrev main_cst_10 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩

abbrev nD : Nat := 1
abbrev τ : Topo := Topo.v7x

variable {F : FTy → Type} [FloatOps F]
-- ==== Proof.KernelIdeal.Tile.lean ====
module

public import proofs.«01_k».proof.Proof.Gen.KernelIdeal.Frame
public import proofs.«01_k».proof.Proof.Gen.KernelIdeal.Loops
public import Idealize.ShloMosaic.Lib.Pipeline.Value

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The kernel's values, tile by tile

What one tile of 512 queries computes, from the chunks of 256 keys, in the kernel's own order of operations: the
scores of a chunk, their largest value over each of the 8 rows of sublanes, the exponentials, the numerators and the
normaliser as running sums, and the finished tile. -/

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A tile of 512 queries, transposed. -/
def trT (x : Vec F S1x1x512x256 .bf16) : FVec F S256x512 .bf16 :=
  truncf .bf16 (transpose S256x512 [1, 0] (extf .f32 (shapeCast S512x256 x shapeCasts_S1x1x512x256_S512x256) bitsLt_bf16_f32) transposes_S512x256_p1_0_S256x512) bitsLt_bf16_f32
/-- The same as it is stored in a slot of the query scratch, -/
def trT3 (x : Vec F S1x1x512x256 .bf16) : FVec F S1x256x512 .bf16 := shapeCast S1x256x512 (trT x) shapeCasts_S256x512_S1x256x512
/-- and read back from it. -/
def unQ (x : Vec F S1x256x512 .bf16) : FVec F S256x512 .bf16 := shapeCast S256x512 x shapeCasts_S1x256x512_S256x512

theorem unQ_trT3 (x : Vec F S1x1x512x256 .bf16) : unQ (trT3 x) = trT x := by
  funext y
  exact congrFun (shapeCast_shapeCast (trT x) shapeCasts_S256x512_S1x256x512 shapeCasts_S1x256x512_S256x512) y

/-- The scores of a chunk of 256 keys (rows) against the tile's queries (columns). -/
def scoreC (k : Vec F S1x1x256x256 .bf16) (q : FVec F S256x512 .bf16) : FVec F S256x512 .f32 :=
  matmul dot_S256x256_S256x512_S256x512_1_0_0_1_n_n none (shapeCast S256x256 k shapeCasts_S1x1x256x256_S256x256) q (constant S256x512 .f32 0x00000000#32)
/-- The largest score of a chunk, for each of the 8 rows of sublanes and each query. -/
def gmaxC (s : FVec F S256x512 .f32) : FVec F S8x512 .f32 :=
  multiReduction .maximumf [0] S8x512 (shapeCast S32x8x512 s shapeCasts_S256x512_S32x8x512) 0xFF800000#32 reduces_S32x8x512_S8x512 (.inl rfl) rfl
/-- The sum over a chunk, for each of the 8 rows of sublanes and each query. -/
def gsumC (s : FVec F S256x512 .f32) : FVec F S8x512 .f32 :=
  multiReduction .add [0] S8x512 (shapeCast S32x8x512 s shapeCasts_S256x512_S32x8x512) 0x00000000#32 reduces_S32x8x512_S8x512 (.inl rfl) rfl
/-- The largest score of each query, of the 8 rows of sublanes. -/
def mrow (m : Vec F S8x512 .f32) : FVec F S1x512 .f32 :=
  shapeCast S1x512 (multiReduction .maximumf [0] S512 m 0xFF800000#32 reduces_S8x512_S512 (.inl rfl) rfl) shapeCasts_S512_S1x512
/-- The exponentials of a chunk. -/
def expC (m : Vec F S8x512 .f32) (s : Vec F S256x512 .f32) : FVec F S256x512 .f32 :=
  exp2 (subf s (broadcastTo S256x512 (mrow m) broadcasts_S1x512_S256x512))
/-- A chunk's part of the numerators. -/
def pvC (v : Vec F S1x1x128x256 .bf16) (p : FVec F S256x512 .f32) : FVec F S128x512 .f32 :=
  matmul dot_S128x256_S256x512_S128x512_1_0_0_1_n_n none (shapeCast S128x256 v shapeCasts_S1x1x128x256_S128x256) (truncf .bf16 p bitsLt_bf16_f32) (constant S128x512 .f32 0x00000000#32)
/-- A finished tile: the numerators over the normaliser, transposed. -/
def finT (l : Vec F S8x512 .f32) (a : Vec F S128x512 .f32) : FVec F S1x512x128 .bf16 :=
  shapeCast S1x512x128 (truncf .bf16 (transpose S512x128 [1, 0] (divf a (broadcastTo S128x512
    (shapeCast S1x512 (multiReduction .add [0] S512 l 0x00000000#32 reduces_S8x512_S512 (.inl rfl) rfl) shapeCasts_S512_S1x512)
    broadcasts_S1x512_S128x512)) transposes_S128x512_p1_0_S512x128) bitsLt_bf16_f32) shapeCasts_S512x128_S1x512x128

/-- The running maximum over the first `n` chunks, from minus infinity, -/
def maxN (s : Fin 17 → FVec F S256x512 .f32) : ℕ → FVec F S8x512 .f32
  | 0 => broadcast S8x512 (Scalar.ofBits .f32 0xFF800000#32)
  | n + 1 => maximumf (maxN s n) (gmaxC (s (Fin.ofNat 17 n)))
/-- and over the first `n + 1` chunks from the first chunk's. -/
def maxN0 (s : Fin 17 → FVec F S256x512 .f32) : ℕ → FVec F S8x512 .f32
  | 0 => gmaxC (s 0)
  | n + 1 => maximumf (maxN0 s n) (gmaxC (s (Fin.ofNat 17 (n + 1))))
/-- The normaliser over the first `n` chunks. -/
def sumN (m : Vec F S8x512 .f32) (s : Fin 17 → FVec F S256x512 .f32) : ℕ → FVec F S8x512 .f32
  | 0 => broadcast S8x512 (Scalar.ofBits .f32 0x00000000#32)
  | n + 1 => addf (sumN m s n) (gsumC (expC m (s (Fin.ofNat 17 n))))
/-- The numerators over the first `n` chunks. -/
def accN (m : Vec F S8x512 .f32) (s : Fin 17 → FVec F S256x512 .f32) (v : Fin 17 → Vec F S1x1x128x256 .bf16) : ℕ → FVec F S128x512 .f32
  | 0 => broadcast S128x512 (Scalar.ofBits .f32 0x00000000#32)
  | n + 1 => addf (accN m s v n) (pvC (v (Fin.ofNat 17 n)) (expC m (s (Fin.ofNat 17 n))))

/-! ## Chunks of the buffers -/

/-- Chunk `j` of a score buffer, -/
abbrev rS (j : Fin 17) : Rect S4352x512 := Rect.unit ![256 * j.val, 0] S256x512.size (by
  intro a
  have := j.isLt
  fin_cases a
  · show 256 * j.val + 256 ≤ 4352
    omega
  · show 0 + 512 ≤ 512
    omega)
/-- of the keys, -/
abbrev rK (j : Fin 16) : Rect S1x1x4096x256 := Rect.unit ![0, 0, 256 * j.val, 0] S1x1x256x256.size (by
  intro a
  have := j.isLt
  fin_cases a
  · show 0 + 1 ≤ 1
    omega
  · show 0 + 1 ≤ 1
    omega
  · show 256 * j.val + 256 ≤ 4096
    omega
  · show 0 + 256 ≤ 256
    omega)
/-- and of the values. -/
abbrev rV (j : Fin 16) : Rect S1x1x128x4096 := Rect.unit ![0, 0, 0, 256 * j.val] S1x1x128x256.size (by
  intro a
  have := j.isLt
  fin_cases a
  · show 0 + 1 ≤ 1
    omega
  · show 0 + 1 ≤ 1
    omega
  · show 0 + 128 ≤ 128
    omega
  · show 256 * j.val + 256 ≤ 4096
    omega)
/-- Tile `i` of the queries, -/
abbrev rQ (i : Fin 8) : Rect S1x1x4096x256 := Rect.unit ![0, 0, 512 * i.val, 0] S1x1x512x256.size (by
  intro a
  have := i.isLt
  fin_cases a
  · show 0 + 1 ≤ 1
    omega
  · show 0 + 1 ≤ 1
    omega
  · show 512 * i.val + 512 ≤ 4096
    omega
  · show 0 + 256 ≤ 256
    omega)
/-- of the next head's first queries, -/
abbrev rQn (i : Fin 2) : Rect S1x1x1024x256 := Rect.unit ![0, 0, 512 * i.val, 0] S1x1x512x256.size (by
  intro a
  have := i.isLt
  fin_cases a
  · show 0 + 1 ≤ 1
    omega
  · show 0 + 1 ≤ 1
    omega
  · show 512 * i.val + 512 ≤ 1024
    omega
  · show 0 + 256 ≤ 256
    omega)
/-- and of the result. -/
abbrev rO (i : Fin 8) : Rect S1x4096x128 := Rect.unit ![0, 512 * i.val, 0] S1x512x128.size (by
  intro a
  have := i.isLt
  fin_cases a
  · show 0 + 1 ≤ 1
    omega
  · show 512 * i.val + 512 ≤ 4096
    omega
  · show 0 + 128 ≤ 128
    omega)
/-- A slot of the query scratch. -/
abbrev rT (i : Fin 2) : Rect S2x256x512 := Rect.unit ![i.val, 0, 0] S1x256x512.size (by
  intro a
  have := i.isLt
  fin_cases a
  · show i.val + 1 ≤ 2
    omega
  · show 0 + 256 ≤ 256
    omega
  · show 0 + 512 ≤ 512
    omega)

section
variable {κ : Kind} {sp sp' : Space}

/-- What chunk `j` of a score buffer holds. -/
def rdS (M : Memref sig κ sp S4352x512 .f32) (f : M.view.ty.Contents (Elt F)) (j : Fin 17) : FVec F S256x512 .f32 :=
  M.view.readAt (Elt F) (rS j).toLoadRect f
/-- Chunk `j` of the keys: sixteen of the latents', then the context's. -/
def kch (K : Memref sig κ sp S1x1x4096x256 .bf16) (C : Memref sig κ sp' S1x1x256x256 .bf16) (f : K.view.ty.Contents (Elt F)) (g : C.view.ty.Contents (Elt F))
    (j : Fin 17) : Vec F S1x1x256x256 .bf16 :=
  if h : j.val < 16 then K.view.readAt (Elt F) (rK ⟨j.val, h⟩).toLoadRect f
  else C.view.readAt (Elt F) (Rect.unit ![0, 0, 0, 0] S1x1x256x256.size inb_S1x1x256x256_S1x1x256x256_0_0_0_0).toLoadRect g
/-- Chunk `j` of the values: sixteen of the latents', then the context's. -/
def vch (K : Memref sig κ sp S1x1x128x4096 .bf16) (C : Memref sig κ sp' S1x1x128x256 .bf16) (f : K.view.ty.Contents (Elt F)) (g : C.view.ty.Contents (Elt F))
    (j : Fin 17) : Vec F S1x1x128x256 .bf16 :=
  if h : j.val < 16 then K.view.readAt (Elt F) (rV ⟨j.val, h⟩).toLoadRect f
  else C.view.readAt (Elt F) (Rect.unit ![0, 0, 0, 0] S1x1x128x256.size inb_S1x1x128x256_S1x1x128x256_0_0_0_0).toLoadRect g
/-- What slot `i` of the query scratch holds. -/
def rdT (M : Memref sig κ sp S2x256x512 .bf16) (f : M.view.ty.Contents (Elt F)) (i : Fin 2) : FVec F S256x512 .bf16 :=
  unQ (M.view.readAt (Elt F) (rT i).toLoadRect f)

/-- The stores of the chunks `w 0`, …, `w (n - 1)` into a score buffer, the last first. -/
def piecesN (w : Fin 17 → FVec F S256x512 .f32) : ℕ → List (View.Piece (Elt F) S4352x512 .f32)
  | 0 => []
  | n + 1 => ⟨rS (Fin.ofNat 17 n), w (Fin.ofNat 17 n)⟩ :: piecesN w n

theorem mem_piecesN (w : Fin 17 → FVec F S256x512 .f32) (n : ℕ) (p) (h : p ∈ piecesN w n) : ∃ j, p = ⟨rS j, w j⟩ := by
  induction n with
  | zero => exact absurd h (List.not_mem_nil)
  | succ n ih =>
    rcases List.mem_cons.mp h with h | h
    · exact ⟨_, h⟩
    · exact ih h

theorem piecesN_mem (w : Fin 17 → FVec F S256x512 .f32) (n : ℕ) (j : Fin 17) (h : j.val < n) : (⟨rS j, w j⟩ : View.Piece (Elt F) S4352x512 .f32) ∈ piecesN w n := by
  induction n with
  | zero => omega
  | succ n ih =>
    rcases Nat.lt_succ_iff_lt_or_eq.mp h with h | h
    · exact List.mem_cons_of_mem _ (ih h)
    · have : Fin.ofNat 17 n = j := Fin.ext (by show n % 17 = j.val; have := j.isLt; omega)
      rw [piecesN, this]
      exact List.mem_cons_self

/-- A score buffer after the seventeen chunks were stored. -/
theorem rdS_writes (M : Memref sig κ sp S4352x512 .f32) (f : M.view.ty.Contents (Elt F)) (w : Fin 17 → FVec F S256x512 .f32) (j : Fin 17) :
    rdS M (M.view.writes (Elt F) f (piecesN w 17)) j = w j := by
  have row : ∀ y : S4352x512.Idx, (y 0).val / 256 < 17 := fun y => by
    have : (y 0).val < 4352 := (y 0).isLt
    omega
  let G : S4352x512.Idx → Elt F .f32 := fun y =>
    w ⟨(y 0).val / 256, row y⟩ (fun a => match a with
      | ⟨0, _⟩ => ⟨(y 0).val % 256, Nat.mod_lt _ (by omega)⟩
      | ⟨1, _⟩ => ⟨(y 1).val, (y 1).isLt⟩)
  have hG : ∀ (i : Fin 17) (x : (rS i).shape.Idx), G ((rS i).emb x) = w i x := by
    intro i x
    have x0 : (x 0).val < 256 := (x 0).isLt
    have e0 : (((rS i).emb x) 0).val = 256 * i.val + (x 0).val := by
      show 256 * i.val + 1 * (x 0).val = _
      omega
    have e1 : (((rS i).emb x) 1).val = (x 1).val := by
      show 0 + 1 * (x 1).val = _
      omega
    have hi : (⟨(((rS i).emb x) 0).val / 256, row _⟩ : Fin 17) = i := Fin.ext (by show _ / 256 = _; rw [e0]; omega)
    show w _ _ = _
    rw [hi]
    congr 1
    funext a
    fin_cases a
    · exact Fin.ext (by show (((rS i).emb x) 0).val % 256 = (x 0).val; rw [e0]; omega)
    · exact Fin.ext e1
  funext x
  show M.view.read (Elt F) _ ((rS j).emb x) = _
  rw [M.view.read_writes_apply_of_pieces f G (piecesN w 17) (fun p hp z => by
      obtain ⟨i, rfl⟩ := mem_piecesN w 17 p hp
      exact (hG i z).symm) _ ⟨_, piecesN_mem w 17 j j.isLt, by
        show (rS j).emb x ∈ (rS j).set
        rw [← Rect.map_emb_univ]
        exact Finset.mem_map_of_mem _ (Finset.mem_univ x)⟩]
  exact hG j x

end

end Cert.KernelIdeal.Attn

end
-- ==== Proof.KernelIdeal.Trip.lean ====
module

public import proofs.«01_k».proof.Proof.KernelIdeal.Tile

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## One trip of the loop over the tiles

A trip works on tile `t`: its scores lie in one score buffer, the scores of tile `t + 1` are put in the other, tile
`t - 1` (before tile 0: what the accumulators held) is finished into its rows of the result, and tile `t + 2` of the
queries is transposed into the slot the trip does not read. Even trips read the first buffer, odd ones the second. -/

theorem off1_eq : ∀ t : Fin k0_t1_loop.trips, k0_cond2 t = 1#1 → k0_off1 t = ![0, 512 * (t.val - 1), 0] := by decide +kernel
theorem off3_eq : ∀ t : Fin k0_t1_loop.trips, ¬ k0_cond2 t = 1#1 → k0_off3 t = ![0, 512 * (t.val - 1), 0] := by decide +kernel
theorem cond2_iff : ∀ t : Fin k0_t1_loop.trips, k0_cond2 t = 1#1 ↔ t.val % 2 = 0 := by decide +kernel
theorem trips_eq : k0_t1_loop.trips = 6 := by decide +kernel

set_option maxHeartbeats 8000000 in
/-- An even trip. -/
theorem trip0 (c : Dev nD) (i : grid0.Coords) (arg2 : Memref sig .tc .vmem S1x1x4096x256 .bf16) (harg2 : arg2.IsWhole) (arg3 : Memref sig .tc .vmem S1x1x1024x256 .bf16) (harg3 : arg3.IsWhole) (arg4 : Memref sig .tc .vmem S1x1x4096x256 .bf16) (harg4 : arg4.IsWhole) (arg5 : Memref sig .tc .vmem S1x1x256x256 .bf16) (harg5 : arg5.IsWhole) (arg6 : Memref sig .tc .vmem S1x1x4096x256 .bf16) (harg6 : arg6.IsWhole) (arg7 : Memref sig .tc .vmem S1x1x256x256 .bf16) (harg7 : arg7.IsWhole) (arg8 : Memref sig .tc .vmem S1x1x128x4096 .bf16) (harg8 : arg8.IsWhole) (arg9 : Memref sig .tc .vmem S1x1x128x256 .bf16) (harg9 : arg9.IsWhole) (arg10 : Memref sig .tc .vmem S1x4096x128 .bf16) (harg10 : arg10.IsWhole) (arg11 : Memref sig .tc .vmem S4352x512 .f32) (harg11 : arg11.IsWhole) (arg12 : Memref sig .tc .vmem S4352x512 .f32) (harg12 : arg12.IsWhole) (arg13 : Memref sig .tc .vmem S2x256x512 .bf16) (harg13 : arg13.IsWhole) (arg14 : Memref sig .tc .vmem S128x512 .f32) (harg14 : arg14.IsWhole) (arg15 : Memref sig .tc .vmem S8x512 .f32) (harg15 : arg15.IsWhole) (arg16 : Memref sig .tc .vmem S8x512 .f32) (harg16 : arg16.IsWhole)
    (f2 : Bf (F := F) c arg2) (f4 : Bf (F := F) c arg4) (f5 : Bf (F := F) c arg5) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (t : Fin k0_t1_loop.trips) (hc : k0_cond2 t = 1#1) (v : Vec F S8x512 .f32) (Q : Vec F S8x512 .f32 → sProp 𝕄) :
    iprop(pt c arg2 f2 ∗ pt c arg4 f4 ∗ pt c arg5 f5 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16
      ∗ (∀ w, iprop(pt c arg2 f2
        ∗ pt c arg4 f4
        ∗ pt c arg5 f5
        ∗ pt c arg8 f8
        ∗ pt c arg9 f9
        ∗ (∃ g, pt c arg10 g ∗ ⌜g = arg10.view.writes (Elt F) f10 [⟨Rect.unit (s := S1x4096x128) (k0_off1 t) S1x512x128.size (k0_off1_inb t hc), finT (arg15.view.readAt (Elt F) (Rect.unit ![0, 0] S8x512.size inb_S8x512_S8x512_0_0).toLoadRect f15) (arg14.view.readAt (Elt F) (Rect.unit ![0, 0] S128x512.size inb_S128x512_S128x512_0_0).toLoadRect f14)⟩]⌝)
        ∗ pt c arg11 f11
        ∗ (∃ g, pt c arg12 g ∗ ⌜∀ j, rdS arg12 g j = scoreC (kch arg4 arg5 f4 f5 j) (rdT arg13 f13 1)⌝)
        ∗ (∃ g, pt c arg13 g ∗ ⌜g = arg13.view.writes (Elt F) f13 [⟨rT 0, trT3 (arg2.view.readAt (Elt F) (Rect.unit (s := S1x1x4096x256) (k0_off2 t) S1x1x512x256.size (k0_off2_inb t hc)).toLoadRect f2)⟩]⌝)
        ∗ (∃ g, pt c arg14 g ∗ ⌜g = arg14.view.writes (Elt F) f14 [⟨Rect.unit ![0, 0] S128x512.size inb_S128x512_S128x512_0_0, accN v (rdS arg11 f11) (vch arg8 arg9 f8 f9) 17⟩]⌝)
        ∗ (∃ g, pt c arg15 g ∗ ⌜g = arg15.view.writes (Elt F) f15 [⟨Rect.unit ![0, 0] S8x512.size inb_S8x512_S8x512_0_0, sumN v (rdS arg11 f11) 17⟩]⌝)
        ∗ pt c arg16 f16
        ∗ ⌜w = maxN (fun j => scoreC (kch arg4 arg5 f4 f5 j) (rdT arg13 f13 1)) 17⌝) -∗ Q w))
    ⊢ wp frame (wpE (defs₀ (F := F)) Variants.none c none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 t v) Q := by
  iintro ⟨H2, H4, H5, H8, H9, H10, H11, H12, H13, H14, H15, H16, Hk⟩
  sl_unfold [k0_t1_body]
  sl_exec_parts
  sl_step
  iapply Hk
  isplitl [H2]; · iexact H2
  isplitl [H4]; · iexact H4
  isplitl [H5]; · iexact H5
  isplitl [H8]; · iexact H8
  isplitl [H9]; · iexact H9
  isplitl [H10]
  · iexists _
    isplitl [H10]; · iexact H10
    ipureintro
    rfl
  isplitl [H11]; · iexact H11
  isplitl [H12]
  · iexists _
    isplitl [H12]; · iexact H12
    ipureintro
    intro j
    refine Eq.trans (rdS_writes arg12 f12 (fun j => shapeCast S256x512 (scoreC (kch arg4 arg5 f4 f5 j) (rdT arg13 f13 1)) shapeCasts_S256x512_S256x512) j) ?_
    exact shapeCast_self _ _
  isplitl [H13]
  · iexists _
    isplitl [H13]; · iexact H13
    ipureintro
    rfl
  isplitl [H14]
  · iexists _
    isplitl [H14]; · iexact H14
    ipureintro
    refine congrArg (fun x => arg14.view.writes (Elt F) f14 [⟨Rect.unit ![0, 0] S128x512.size inb_S128x512_S128x512_0_0, x⟩]) ?_
    exact shapeCast_self (accN v (rdS arg11 f11) (vch arg8 arg9 f8 f9) 17) shapeCasts_S128x512_S128x512
  isplitl [H15]
  · iexists _
    isplitl [H15]; · iexact H15
    ipureintro
    refine congrArg (fun x => arg15.view.writes (Elt F) f15 [⟨Rect.unit ![0, 0] S8x512.size inb_S8x512_S8x512_0_0, x⟩]) ?_
    exact shapeCast_self (sumN v (rdS arg11 f11) 17) shapeCasts_S8x512_S8x512
  isplitl [H16]; · iexact H16
  ipureintro
  rfl

set_option maxHeartbeats 8000000 in
/-- An odd trip. -/
theorem trip1 (c : Dev nD) (i : grid0.Coords) (arg2 : Memref sig .tc .vmem S1x1x4096x256 .bf16) (harg2 : arg2.IsWhole) (arg3 : Memref sig .tc .vmem S1x1x1024x256 .bf16) (harg3 : arg3.IsWhole) (arg4 : Memref sig .tc .vmem S1x1x4096x256 .bf16) (harg4 : arg4.IsWhole) (arg5 : Memref sig .tc .vmem S1x1x256x256 .bf16) (harg5 : arg5.IsWhole) (arg6 : Memref sig .tc .vmem S1x1x4096x256 .bf16) (harg6 : arg6.IsWhole) (arg7 : Memref sig .tc .vmem S1x1x256x256 .bf16) (harg7 : arg7.IsWhole) (arg8 : Memref sig .tc .vmem S1x1x128x4096 .bf16) (harg8 : arg8.IsWhole) (arg9 : Memref sig .tc .vmem S1x1x128x256 .bf16) (harg9 : arg9.IsWhole) (arg10 : Memref sig .tc .vmem S1x4096x128 .bf16) (harg10 : arg10.IsWhole) (arg11 : Memref sig .tc .vmem S4352x512 .f32) (harg11 : arg11.IsWhole) (arg12 : Memref sig .tc .vmem S4352x512 .f32) (harg12 : arg12.IsWhole) (arg13 : Memref sig .tc .vmem S2x256x512 .bf16) (harg13 : arg13.IsWhole) (arg14 : Memref sig .tc .vmem S128x512 .f32) (harg14 : arg14.IsWhole) (arg15 : Memref sig .tc .vmem S8x512 .f32) (harg15 : arg15.IsWhole) (arg16 : Memref sig .tc .vmem S8x512 .f32) (harg16 : arg16.IsWhole)
    (f2 : Bf (F := F) c arg2) (f4 : Bf (F := F) c arg4) (f5 : Bf (F := F) c arg5) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (t : Fin k0_t1_loop.trips) (hc : ¬ k0_cond2 t = 1#1) (v : Vec F S8x512 .f32) (Q : Vec F S8x512 .f32 → sProp 𝕄) :
    iprop(pt c arg2 f2 ∗ pt c arg4 f4 ∗ pt c arg5 f5 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16
      ∗ (∀ w, iprop(pt c arg2 f2
        ∗ pt c arg4 f4
        ∗ pt c arg5 f5
        ∗ pt c arg8 f8
        ∗ pt c arg9 f9
        ∗ (∃ g, pt c arg10 g ∗ ⌜g = arg10.view.writes (Elt F) f10 [⟨Rect.unit (s := S1x4096x128) (k0_off3 t) S1x512x128.size (k0_off3_inb t hc), finT (arg15.view.readAt (Elt F) (Rect.unit ![0, 0] S8x512.size inb_S8x512_S8x512_0_0).toLoadRect f15) (arg14.view.readAt (Elt F) (Rect.unit ![0, 0] S128x512.size inb_S128x512_S128x512_0_0).toLoadRect f14)⟩]⌝)
        ∗ (∃ g, pt c arg11 g ∗ ⌜∀ j, rdS arg11 g j = scoreC (kch arg4 arg5 f4 f5 j) (rdT arg13 f13 0)⌝)
        ∗ pt c arg12 f12
        ∗ (∃ g, pt c arg13 g ∗ ⌜g = arg13.view.writes (Elt F) f13 [⟨rT 1, trT3 (arg2.view.readAt (Elt F) (Rect.unit (s := S1x1x4096x256) (k0_off4 t) S1x1x512x256.size (k0_off4_inb t hc)).toLoadRect f2)⟩]⌝)
        ∗ (∃ g, pt c arg14 g ∗ ⌜g = arg14.view.writes (Elt F) f14 [⟨Rect.unit ![0, 0] S128x512.size inb_S128x512_S128x512_0_0, accN v (rdS arg12 f12) (vch arg8 arg9 f8 f9) 17⟩]⌝)
        ∗ (∃ g, pt c arg15 g ∗ ⌜g = arg15.view.writes (Elt F) f15 [⟨Rect.unit ![0, 0] S8x512.size inb_S8x512_S8x512_0_0, sumN v (rdS arg12 f12) 17⟩]⌝)
        ∗ pt c arg16 f16
        ∗ ⌜w = maxN (fun j => scoreC (kch arg4 arg5 f4 f5 j) (rdT arg13 f13 0)) 17⌝) -∗ Q w))
    ⊢ wp frame (wpE (defs₀ (F := F)) Variants.none c none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 t v) Q := by
  iintro ⟨H2, H4, H5, H8, H9, H10, H11, H12, H13, H14, H15, H16, Hk⟩
  sl_unfold [k0_t1_body]
  sl_exec_parts
  sl_step
  iapply Hk
  isplitl [H2]; · iexact H2
  isplitl [H4]; · iexact H4
  isplitl [H5]; · iexact H5
  isplitl [H8]; · iexact H8
  isplitl [H9]; · iexact H9
  isplitl [H10]
  · iexists _
    isplitl [H10]; · iexact H10
    ipureintro
    rfl
  isplitl [H11]
  · iexists _
    isplitl [H11]; · iexact H11
    ipureintro
    intro j
    refine Eq.trans (rdS_writes arg11 f11 (fun j => shapeCast S256x512 (scoreC (kch arg4 arg5 f4 f5 j) (rdT arg13 f13 0)) shapeCasts_S256x512_S256x512) j) ?_
    exact shapeCast_self _ _
  isplitl [H12]; · iexact H12
  isplitl [H13]
  · iexists _
    isplitl [H13]; · iexact H13
    ipureintro
    rfl
  isplitl [H14]
  · iexists _
    isplitl [H14]; · iexact H14
    ipureintro
    refine congrArg (fun x => arg14.view.writes (Elt F) f14 [⟨Rect.unit ![0, 0] S128x512.size inb_S128x512_S128x512_0_0, x⟩]) ?_
    exact shapeCast_self (accN v (rdS arg12 f12) (vch arg8 arg9 f8 f9) 17) shapeCasts_S128x512_S128x512
  isplitl [H15]
  · iexists _
    isplitl [H15]; · iexact H15
    ipureintro
    refine congrArg (fun x => arg15.view.writes (Elt F) f15 [⟨Rect.unit ![0, 0] S8x512.size inb_S8x512_S8x512_0_0, x⟩]) ?_
    exact shapeCast_self (sumN v (rdS arg12 f12) 17) shapeCasts_S8x512_S8x512
  isplitl [H16]; · iexact H16
  ipureintro
  rfl

end Cert.KernelIdeal.Attn

end
-- ==== Proof.KernelIdeal.Loop.lean ====
module

public import proofs.«01_k».proof.Proof.KernelIdeal.Trip
public import Idealize.ShloMosaic.Lib.VecWindow

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Reading back what a trip stored -/

section Reads
variable {κ : Kind} {sp : Space}

/-- The numerators' and the normaliser's scratch, read whole. -/
abbrev rdA (M : Memref sig κ sp S128x512 .f32) (f : M.view.ty.Contents (Elt F)) : Vec F S128x512 .f32 :=
  M.view.readAt (Elt F) (Rect.unit ![0, 0] S128x512.size inb_S128x512_S128x512_0_0).toLoadRect f
abbrev rdL (M : Memref sig κ sp S8x512 .f32) (f : M.view.ty.Contents (Elt F)) : Vec F S8x512 .f32 :=
  M.view.readAt (Elt F) (Rect.unit ![0, 0] S8x512.size inb_S8x512_S8x512_0_0).toLoadRect f
/-- Tile `i` of the result's buffer. -/
abbrev rdO (M : Memref sig κ sp S1x4096x128 .bf16) (f : M.view.ty.Contents (Elt F)) (i : Fin 8) : Vec F S1x512x128 .bf16 :=
  M.view.readAt (Elt F) (rO i).toLoadRect f

theorem rdA_writes (M : Memref sig κ sp S128x512 .f32) (f : M.view.ty.Contents (Elt F)) (x : Vec F S128x512 .f32) (L) :
    rdA M (M.view.writes (Elt F) f (⟨Rect.unit ![0, 0] S128x512.size inb_S128x512_S128x512_0_0, x⟩ :: L)) = x :=
  M.view.readAt_writes_full f _ _ x L
theorem rdL_writes (M : Memref sig κ sp S8x512 .f32) (f : M.view.ty.Contents (Elt F)) (x : Vec F S8x512 .f32) (L) :
    rdL M (M.view.writes (Elt F) f (⟨Rect.unit ![0, 0] S8x512.size inb_S8x512_S8x512_0_0, x⟩ :: L)) = x :=
  M.view.readAt_writes_full f _ _ x L

theorem rdO_hit (M : Memref sig κ sp S1x4096x128 .bf16) (f : M.view.ty.Contents (Elt F)) (i i' : Fin 8) (hi : i = i') (x : Vec F S1x512x128 .bf16) (L) :
    rdO M (M.view.writes (Elt F) f (⟨rO i', x⟩ :: L)) i = x := by
  subst hi
  funext y
  exact M.view.read_writes_cons_emb f (rO i) x L y
theorem rdO_miss (M : Memref sig κ sp S1x4096x128 .bf16) (f : M.view.ty.Contents (Elt F)) (i i' : Fin 8) (hi : i ≠ i') (x : Vec F S1x512x128 .bf16) (L) :
    rdO M (M.view.writes (Elt F) f (⟨rO i', x⟩ :: L)) i = rdO M (M.view.writes (Elt F) f L) i := by
  funext y
  have y1 : (y 1).val < 512 := (y 1).isLt
  have hv : i.val ≠ i'.val := fun h => hi (Fin.ext h)
  refine M.view.read_writes_cons_miss_of_axis f ⟨rO i', x⟩ L ((rO i).emb y) 1 (512 * i'.val) 512 rfl rfl rfl ?_
  show 512 * i.val + 1 * (y 1).val < _ ∨ _ ≤ 512 * i.val + 1 * (y 1).val
  omega

theorem rdT_hit (M : Memref sig κ sp S2x256x512 .bf16) (f : M.view.ty.Contents (Elt F)) (i : Fin 2) (x : Vec F S1x1x512x256 .bf16) (L) :
    rdT M (M.view.writes (Elt F) f (⟨rT i, trT3 x⟩ :: L)) i = trT x := by
  refine Eq.trans (congrArg unQ ?_) (unQ_trT3 x)
  funext y
  exact M.view.read_writes_cons_emb f (rT i) (trT3 x) L y
theorem rdT_miss (M : Memref sig κ sp S2x256x512 .bf16) (f : M.view.ty.Contents (Elt F)) (i i' : Fin 2) (hi : i ≠ i') (x : FVec F S1x256x512 .bf16) (L) :
    rdT M (M.view.writes (Elt F) f (⟨rT i', x⟩ :: L)) i = rdT M (M.view.writes (Elt F) f L) i := by
  refine congrArg unQ ?_
  funext y
  have y1 : (y 0).val < 1 := (y 0).isLt
  have hv : i.val ≠ i'.val := fun h => hi (Fin.ext h)
  refine M.view.read_writes_cons_miss_of_axis f ⟨rT i', x⟩ L ((rT i).emb y) 0 (i'.val) 1 rfl rfl rfl ?_
  show i.val + 1 * (y 0).val < _ ∨ _ ≤ i.val + 1 * (y 0).val
  omega

/-- A store or a load at an offset in closed form. -/
theorem piece_rO (off : Fin 3 → ℕ) (inb : ∀ a, off a + S1x512x128.size a ≤ S1x4096x128.size a) (i : Fin 8) (e : off = ![0, 512 * i.val, 0]) (x : Vec F S1x512x128 .bf16) :
    (⟨Rect.unit (s := S1x4096x128) off S1x512x128.size inb, x⟩ : View.Piece (Elt F) S1x4096x128 .bf16) = ⟨rO i, x⟩ := by
  subst e
  rfl
theorem readAt_rQ (M : Memref sig κ sp S1x1x4096x256 .bf16) (f : M.view.ty.Contents (Elt F)) (off : Fin 4 → ℕ) (inb : ∀ a, off a + S1x1x512x256.size a ≤ S1x1x4096x256.size a)
    (n : ℕ) (hn : n < 8) (e : off = ![0, 0, 512 * (n - 2) + 1024, 0]) (h2 : 2 ≤ n := by omega) :
    M.view.readAt (Elt F) (Rect.unit (s := S1x1x4096x256) off S1x1x512x256.size inb).toLoadRect f = M.view.readAt (Elt F) (rQ (Fin.ofNat 8 n)).toLoadRect f := by
  have e' : off = ![0, 0, 512 * (Fin.ofNat 8 n).val, 0] := by
    rw [e]
    have : 512 * (n - 2) + 1024 = 512 * (Fin.ofNat 8 n).val := by
      show _ = 512 * (n % 8)
      omega
    rw [this]
  subst e'
  rfl

end Reads

/-! ## What a head's tiles compute -/

section Tiles
variable (K : Fin 17 → Vec F S1x1x256x256 .bf16) (V : Fin 17 → Vec F S1x1x128x256 .bf16) (T : ℕ → FVec F S256x512 .bf16) (m₀ : Vec F S8x512 .f32)

/-- The scores of tile `i`, chunk by chunk, -/
def sc (i : ℕ) : Fin 17 → FVec F S256x512 .f32 := fun j => scoreC (K j) (T i)
/-- their largest values (tile 0's as handed over), -/
def mx : ℕ → Vec F S8x512 .f32
  | 0 => m₀
  | i + 1 => maxN (sc K T (i + 1)) 17
/-- the numerators, -/
def ac (i : ℕ) : FVec F S128x512 .f32 := accN (mx K T m₀ i) (sc K T i) V 17
/-- the normaliser, -/
def sm (i : ℕ) : FVec F S8x512 .f32 := sumN (mx K T m₀ i) (sc K T i) 17
/-- and the tile of the result. -/
def ot (i : ℕ) : FVec F S1x512x128 .bf16 := finT (sm K T m₀ i) (ac K V T m₀ i)

variable {κ : Kind} {sp : Space} (M10 : Memref sig κ sp S1x4096x128 .bf16) (M11 M12 : Memref sig κ sp S4352x512 .f32)
  (M13 : Memref sig κ sp S2x256x512 .bf16) (M14 : Memref sig κ sp S128x512 .f32) (M15 : Memref sig κ sp S8x512 .f32)

/-- What the scratch and the result hold before trip `k`, carrying `m`. -/
structure Before (k : ℕ) (m : Vec F S8x512 .f32) (g10 : M10.view.ty.Contents (Elt F)) (g11 : M11.view.ty.Contents (Elt F)) (g12 : M12.view.ty.Contents (Elt F))
    (g13 : M13.view.ty.Contents (Elt F)) (g14 : M14.view.ty.Contents (Elt F)) (g15 : M15.view.ty.Contents (Elt F)) : Prop where
  max : m = mx K T m₀ k
  even : k % 2 = 0 → (∀ j, rdS M11 g11 j = sc K T k j) ∧ (k + 1 < 8 → rdT M13 g13 1 = T (k + 1))
  odd : k % 2 = 1 → (∀ j, rdS M12 g12 j = sc K T k j) ∧ (k + 1 < 8 → rdT M13 g13 0 = T (k + 1))
  num : 0 < k → rdA M14 g14 = ac K V T m₀ (k - 1)
  den : 0 < k → rdL M15 g15 = sm K T m₀ (k - 1)
  out : ∀ i : Fin 8, i.val + 1 < k → rdO M10 g10 i = ot K V T m₀ i.val

variable {K V T m₀ M10 M11 M12 M13 M14 M15}
variable {k : ℕ} {m : Vec F S8x512 .f32} {g10 : M10.view.ty.Contents (Elt F)} {g11 : M11.view.ty.Contents (Elt F)} {g12 : M12.view.ty.Contents (Elt F)}
    {g13 : M13.view.ty.Contents (Elt F)} {g14 : M14.view.ty.Contents (Elt F)} {g15 : M15.view.ty.Contents (Elt F)}

/-- The result's buffer after a trip has finished the tile before its own. -/
theorem Before.out_next (h : Before K V T m₀ M10 M11 M12 M13 M14 M15 k m g10 g11 g12 g13 g14 g15) (hk : k < 8)
    (i : Fin 8) (hi : i.val + 1 < k + 1) :
    rdO M10 (M10.view.writes (Elt F) g10 [⟨rO ⟨k - 1, by omega⟩, finT (rdL M15 g15) (rdA M14 g14)⟩]) i = ot K V T m₀ i.val := by
  by_cases e : i.val = k - 1
  · rw [rdO_hit M10 g10 i _ (Fin.ext e), h.num (by omega), h.den (by omega), e]
    rfl
  · rw [rdO_miss M10 g10 i _ (fun e' => e (congrArg Fin.val e'))]
    exact h.out i (by omega)

/-- An even trip. -/
theorem Before.next_even (h : Before K V T m₀ M10 M11 M12 M13 M14 M15 k m g10 g11 g12 g13 g14 g15) (hk : k + 1 < 8) (he : k % 2 = 0)
    {w : Vec F S8x512 .f32} {h10 : M10.view.ty.Contents (Elt F)} {h12 : M12.view.ty.Contents (Elt F)} {h13 : M13.view.ty.Contents (Elt F)} {h14 : M14.view.ty.Contents (Elt F)} {h15 : M15.view.ty.Contents (Elt F)}
    (e10 : h10 = M10.view.writes (Elt F) g10 [⟨rO ⟨k - 1, by omega⟩, finT (rdL M15 g15) (rdA M14 g14)⟩])
    (e12 : ∀ j, rdS M12 h12 j = scoreC (K j) (rdT M13 g13 1)) (e13 : k + 2 < 8 → rdT M13 h13 0 = T (k + 2))
    (e14 : h14 = M14.view.writes (Elt F) g14 [⟨Rect.unit ![0, 0] S128x512.size inb_S128x512_S128x512_0_0, accN m (rdS M11 g11) V 17⟩])
    (e15 : h15 = M15.view.writes (Elt F) g15 [⟨Rect.unit ![0, 0] S8x512.size inb_S8x512_S8x512_0_0, sumN m (rdS M11 g11) 17⟩])
    (ew : w = maxN (fun j => scoreC (K j) (rdT M13 g13 1)) 17) :
    Before K V T m₀ M10 M11 M12 M13 M14 M15 (k + 1) w h10 g11 h12 h13 h14 h15 := by
  obtain ⟨hs, ht⟩ := h.even he
  replace ht := ht hk
  have hs' : rdS M11 g11 = sc K T k := funext hs
  refine ⟨?_, fun h' => absurd h' (by omega), fun _ => ⟨fun j => ?_, e13⟩, fun _ => ?_, fun _ => ?_, fun i hi => ?_⟩
  · rw [ew, ht]; rfl
  · rw [e12, ht]; rfl
  · rw [e14, rdA_writes, hs', h.max]; rfl
  · rw [e15, rdL_writes, hs', h.max]; rfl
  · rw [e10]; exact h.out_next (by omega) i hi

/-- An odd trip. -/
theorem Before.next_odd (h : Before K V T m₀ M10 M11 M12 M13 M14 M15 k m g10 g11 g12 g13 g14 g15) (hk : k + 1 < 8) (he : k % 2 = 1)
    {w : Vec F S8x512 .f32} {h10 : M10.view.ty.Contents (Elt F)} {h11 : M11.view.ty.Contents (Elt F)} {h13 : M13.view.ty.Contents (Elt F)} {h14 : M14.view.ty.Contents (Elt F)} {h15 : M15.view.ty.Contents (Elt F)}
    (e10 : h10 = M10.view.writes (Elt F) g10 [⟨rO ⟨k - 1, by omega⟩, finT (rdL M15 g15) (rdA M14 g14)⟩])
    (e11 : ∀ j, rdS M11 h11 j = scoreC (K j) (rdT M13 g13 0)) (e13 : k + 2 < 8 → rdT M13 h13 1 = T (k + 2))
    (e14 : h14 = M14.view.writes (Elt F) g14 [⟨Rect.unit ![0, 0] S128x512.size inb_S128x512_S128x512_0_0, accN m (rdS M12 g12) V 17⟩])
    (e15 : h15 = M15.view.writes (Elt F) g15 [⟨Rect.unit ![0, 0] S8x512.size inb_S8x512_S8x512_0_0, sumN m (rdS M12 g12) 17⟩])
    (ew : w = maxN (fun j => scoreC (K j) (rdT M13 g13 0)) 17) :
    Before K V T m₀ M10 M11 M12 M13 M14 M15 (k + 1) w h10 h11 g12 h13 h14 h15 := by
  obtain ⟨hs, ht⟩ := h.odd he
  replace ht := ht hk
  have hs' : rdS M12 g12 = sc K T k := funext hs
  refine ⟨?_, fun _ => ⟨fun j => ?_, e13⟩, fun h' => absurd h' (by omega), fun _ => ?_, fun _ => ?_, fun i hi => ?_⟩
  · rw [ew, ht]; rfl
  · rw [e11, ht]; rfl
  · rw [e14, rdA_writes, hs', h.max]; rfl
  · rw [e15, rdL_writes, hs', h.max]; rfl
  · rw [e10]; exact h.out_next (by omega) i hi

/-- The last two tiles: after them the whole result is there. -/
theorem Before.finish (h : Before K V T m₀ M10 M11 M12 M13 M14 M15 6 m g10 g11 g12 g13 g14 g15)
    {s : Fin 17 → FVec F S256x512 .f32} {l6 l7 : Vec F S8x512 .f32} {a6 a7 : Vec F S128x512 .f32} {w : Vec F S8x512 .f32}
    (hw : w = maxN (fun j => scoreC (K j) (rdT M13 g13 1)) 17) (hs : ∀ j, s j = scoreC (K j) (rdT M13 g13 1))
    (hl6 : l6 = sumN m (rdS M11 g11) 17) (ha6 : a6 = accN m (rdS M11 g11) V 17) (hl7 : l7 = sumN w s 17) (ha7 : a7 = accN w s V 17) (i : Fin 8) :
    rdO M10 (M10.view.writes (Elt F) g10 [⟨rO 7, finT l7 a7⟩, ⟨rO 6, finT l6 a6⟩, ⟨rO 5, finT (rdL M15 g15) (rdA M14 g14)⟩]) i = ot K V T m₀ i.val := by
  obtain ⟨hs6, ht⟩ := h.even (by omega)
  have hs6' : rdS M11 g11 = sc K T 6 := funext hs6
  have hw7 : w = mx K T m₀ 7 := by rw [hw, ht (by omega)]; rfl
  have hs7 : s = sc K T 7 := funext fun j => by rw [hs, ht (by omega)]; rfl
  by_cases e7 : i = 7
  · rw [rdO_hit M10 g10 i 7 e7, e7, hl7, ha7, hw7, hs7]; rfl
  rw [rdO_miss M10 g10 i 7 e7]
  by_cases e6 : i = 6
  · rw [rdO_hit M10 g10 i 6 e6, e6, hl6, ha6, hs6', h.max]; rfl
  rw [rdO_miss M10 g10 i 6 e6]
  refine h.out_next (by omega) i ?_
  have h7 : i.val ≠ 7 := fun h => e7 (Fin.ext h)
  have h6 : i.val ≠ 6 := fun h => e6 (Fin.ext h)
  have := i.isLt
  omega

end Tiles

/-! ## The loop -/

/-- Tile `i` of a head's queries, transposed. -/
def tq {κ : Kind} {sp : Space} (M : Memref sig κ sp S1x1x4096x256 .bf16) (f : M.view.ty.Contents (Elt F)) (i : ℕ) : FVec F S256x512 .bf16 :=
  trT (M.view.readAt (Elt F) (rQ (Fin.ofNat 8 i)).toLoadRect f)

section Loop
variable (c : Dev nD) (i : grid0.Coords) (arg2 : Memref sig .tc .vmem S1x1x4096x256 .bf16) (harg2 : arg2.IsWhole) (arg3 : Memref sig .tc .vmem S1x1x1024x256 .bf16) (harg3 : arg3.IsWhole) (arg4 : Memref sig .tc .vmem S1x1x4096x256 .bf16) (harg4 : arg4.IsWhole) (arg5 : Memref sig .tc .vmem S1x1x256x256 .bf16) (harg5 : arg5.IsWhole) (arg6 : Memref sig .tc .vmem S1x1x4096x256 .bf16) (harg6 : arg6.IsWhole) (arg7 : Memref sig .tc .vmem S1x1x256x256 .bf16) (harg7 : arg7.IsWhole) (arg8 : Memref sig .tc .vmem S1x1x128x4096 .bf16) (harg8 : arg8.IsWhole) (arg9 : Memref sig .tc .vmem S1x1x128x256 .bf16) (harg9 : arg9.IsWhole) (arg10 : Memref sig .tc .vmem S1x4096x128 .bf16) (harg10 : arg10.IsWhole) (arg11 : Memref sig .tc .vmem S4352x512 .f32) (harg11 : arg11.IsWhole) (arg12 : Memref sig .tc .vmem S4352x512 .f32) (harg12 : arg12.IsWhole) (arg13 : Memref sig .tc .vmem S2x256x512 .bf16) (harg13 : arg13.IsWhole) (arg14 : Memref sig .tc .vmem S128x512 .f32) (harg14 : arg14.IsWhole) (arg15 : Memref sig .tc .vmem S8x512 .f32) (harg15 : arg15.IsWhole) (arg16 : Memref sig .tc .vmem S8x512 .f32) (harg16 : arg16.IsWhole)
  (f2 : Bf (F := F) c arg2) (f4 : Bf (F := F) c arg4) (f5 : Bf (F := F) c arg5) (f8 : Bf (F := F) c arg8) (f9 : Bf (F := F) c arg9) (m₀ : Vec F S8x512 .f32)

/-- The buffers a trip touches, before trip `k`. -/
def inside (k : ℕ) (m : Vec F S8x512 .f32) : sProp 𝕄 :=
  iprop(pt c arg2 f2 ∗ pt c arg4 f4 ∗ pt c arg5 f5 ∗ pt c arg8 f8 ∗ pt c arg9 f9
    ∗ ∃ g10 g11 g12 g13 g14 g15, pt c arg10 g10 ∗ pt c arg11 g11 ∗ pt c arg12 g12 ∗ pt c arg13 g13 ∗ pt c arg14 g14 ∗ pt c arg15 g15
      ∗ ⌜Before (kch arg4 arg5 f4 f5) (vch arg8 arg9 f8 f9) (tq arg2 f2) m₀ arg10 arg11 arg12 arg13 arg14 arg15 k m g10 g11 g12 g13 g14 g15⌝)
abbrev before (k : ℕ) (m : Vec F S8x512 .f32) : sProp 𝕄 :=
  iprop(inside c arg2 arg4 arg5 arg8 arg9 arg10 arg11 arg12 arg13 arg14 arg15 f2 f4 f5 f8 f9 m₀ k m ∗ ∃ f, pt c arg16 f)

theorem trip_before (k : Fin k0_t1_loop.trips) (acc : Vec F S8x512 .f32) :
    before c arg2 arg4 arg5 arg8 arg9 arg10 arg11 arg12 arg13 arg14 arg15 arg16 f2 f4 f5 f8 f9 m₀ k.val acc
    ⊢ wp frame (wpE (defs₀ (F := F)) Variants.none c none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k acc)
      (before c arg2 arg4 arg5 arg8 arg9 arg10 arg11 arg12 arg13 arg14 arg15 arg16 f2 f4 f5 f8 f9 m₀ (k.val + 1)) := by
  have hk : k.val < 6 := Nat.lt_of_lt_of_eq k.isLt trips_eq
  iintro ⟨Hin, %f16, H16⟩
  unfold inside
  icases Hin with ⟨H2, H4, H5, H8, H9, %g10, %g11, %g12, %g13, %g14, %g15, H10, H11, H12, H13, H14, H15, %hb⟩
  by_cases hc : k0_cond2 k = 1#1
  · have hpar : k.val % 2 = 0 := (cond2_iff k).mp hc
    iapply (trip0 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f4 f5 f8 f9 g10 g11 g12 g13 g14 g15 f16 k hc acc)
    isplitl [H2]; · iexact H2
    isplitl [H4]; · iexact H4
    isplitl [H5]; · iexact H5
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro %w ⟨H2, H4, H5, H8, H9, ⟨%h10, H10, %e10⟩, H11, ⟨%h12, H12, %e12⟩, ⟨%h13, H13, %e13⟩, ⟨%h14, H14, %e14⟩, ⟨%h15, H15, %e15⟩, H16, %ew⟩
    isplitr [H16]; swap; · iexists _; iexact H16
    unfold inside
    isplitl [H2]; · iexact H2
    isplitl [H4]; · iexact H4
    isplitl [H5]; · iexact H5
    isplitl [H8]; · iexact H8
    isplitl [H9]; · iexact H9
    iexists _
    iexists _
    iexists _
    iexists _
    iexists _
    iexists _
    isplitl [H10]; · iexact H10
    isplitl [H11]; · iexact H11
    isplitl [H12]; · iexact H12
    isplitl [H13]; · iexact H13
    isplitl [H14]; · iexact H14
    isplitl [H15]; · iexact H15
    ipureintro
    refine hb.next_even (by omega) hpar ?_ e12 ?_ e14 e15 ew
    · rw [e10]
      exact congrArg (fun p => arg10.view.writes (Elt F) g10 [p]) (piece_rO _ _ ⟨k.val - 1, by omega⟩ (off1_eq k hc) _)
    · intro _
      rw [e13, rdT_hit]
      exact congrArg trT (readAt_rQ arg2 f2 _ _ (k.val + 2) (by omega) (k0_off2_eq k))
  · have hpar : k.val % 2 = 1 := by
      have h2 : ¬ k.val % 2 = 0 := fun h => hc ((cond2_iff k).mpr h)
      omega
    iapply (trip1 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f4 f5 f8 f9 g10 g11 g12 g13 g14 g15 f16 k hc acc)
    isplitl [H2]; · iexact H2
    isplitl [H4]; · iexact H4
    isplitl [H5]; · iexact H5
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro %w ⟨H2, H4, H5, H8, H9, ⟨%h10, H10, %e10⟩, ⟨%h11, H11, %e11⟩, H12, ⟨%h13, H13, %e13⟩, ⟨%h14, H14, %e14⟩, ⟨%h15, H15, %e15⟩, H16, %ew⟩
    isplitr [H16]; swap; · iexists _; iexact H16
    unfold inside
    isplitl [H2]; · iexact H2
    isplitl [H4]; · iexact H4
    isplitl [H5]; · iexact H5
    isplitl [H8]; · iexact H8
    isplitl [H9]; · iexact H9
    iexists _
    iexists _
    iexists _
    iexists _
    iexists _
    iexists _
    isplitl [H10]; · iexact H10
    isplitl [H11]; · iexact H11
    isplitl [H12]; · iexact H12
    isplitl [H13]; · iexact H13
    isplitl [H14]; · iexact H14
    isplitl [H15]; · iexact H15
    ipureintro
    refine hb.next_odd (by omega) hpar ?_ e11 ?_ e14 e15 ew
    · rw [e10]
      exact congrArg (fun p => arg10.view.writes (Elt F) g10 [p]) (piece_rO _ _ ⟨k.val - 1, by omega⟩ (off3_eq k hc) _)
    · intro _
      rw [e13, rdT_hit]
      exact congrArg trT (readAt_rQ arg2 f2 _ _ (k.val + 2) (by omega) (k0_off4_eq k))

end Loop

end Cert.KernelIdeal.Attn

end
-- ==== Proof.KernelIdeal.Body.lean ====
module

public import proofs.«01_k».proof.Proof.KernelIdeal.Loop

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The body at a grid point

From the scores of the head's tile 0 in the first score buffer, its largest values, and tile 1 in slot 1 — which the
first grid point computes itself, and every other finds as the point before left them — the body computes the eight
tiles of the head's result, and leaves the same for the next head. -/

/-- Tile `i` of the next head's queries, transposed. -/
def tqn {κ : Kind} {sp : Space} (M : Memref sig κ sp S1x1x1024x256 .bf16) (f : M.view.ty.Contents (Elt F)) (i : Fin 2) : FVec F S256x512 .bf16 :=
  trT (M.view.readAt (Elt F) (rQn i).toLoadRect f)

set_option maxHeartbeats 16000000 in
/-- Every other grid point. -/
theorem body_next (c : Dev nD) (i : grid0.Coords) (arg2 : Memref sig .tc .vmem S1x1x4096x256 .bf16) (harg2 : arg2.IsWhole) (arg3 : Memref sig .tc .vmem S1x1x1024x256 .bf16) (harg3 : arg3.IsWhole) (arg4 : Memref sig .tc .vmem S1x1x4096x256 .bf16) (harg4 : arg4.IsWhole) (arg5 : Memref sig .tc .vmem S1x1x256x256 .bf16) (harg5 : arg5.IsWhole) (arg6 : Memref sig .tc .vmem S1x1x4096x256 .bf16) (harg6 : arg6.IsWhole) (arg7 : Memref sig .tc .vmem S1x1x256x256 .bf16) (harg7 : arg7.IsWhole) (arg8 : Memref sig .tc .vmem S1x1x128x4096 .bf16) (harg8 : arg8.IsWhole) (arg9 : Memref sig .tc .vmem S1x1x128x256 .bf16) (harg9 : arg9.IsWhole) (arg10 : Memref sig .tc .vmem S1x4096x128 .bf16) (harg10 : arg10.IsWhole) (arg11 : Memref sig .tc .vmem S4352x512 .f32) (harg11 : arg11.IsWhole) (arg12 : Memref sig .tc .vmem S4352x512 .f32) (harg12 : arg12.IsWhole) (arg13 : Memref sig .tc .vmem S2x256x512 .bf16) (harg13 : arg13.IsWhole) (arg14 : Memref sig .tc .vmem S128x512 .f32) (harg14 : arg14.IsWhole) (arg15 : Memref sig .tc .vmem S8x512 .f32) (harg15 : arg15.IsWhole) (arg16 : Memref sig .tc .vmem S8x512 .f32) (harg16 : arg16.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16)
    (hc : ¬ k0_cond1 i = 1#1)
    (hS : ∀ j, rdS arg11 f11 j = sc (kch arg4 arg5 f4 f5) (tq arg2 f2) 0 j) (hT : rdT arg13 f13 1 = tq arg2 f2 1) (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16
      ∗ (iprop(pt c arg2 f2
        ∗ pt c arg3 f3
        ∗ pt c arg4 f4
        ∗ pt c arg5 f5
        ∗ pt c arg6 f6
        ∗ pt c arg7 f7
        ∗ pt c arg8 f8
        ∗ pt c arg9 f9
        ∗ (∃ g, pt c arg10 g ∗ ⌜∀ i : Fin 8, rdO arg10 g i = ot (kch arg4 arg5 f4 f5) (vch arg8 arg9 f8 f9) (tq arg2 f2) (rdL arg16 f16) i.val⌝)
        ∗ (∃ g, pt c arg11 g ∗ ⌜∀ j, rdS arg11 g j = scoreC (kch arg6 arg7 f6 f7 j) (tqn arg3 f3 0)⌝)
        ∗ (∃ g, pt c arg12 g)
        ∗ (∃ g, pt c arg13 g ∗ ⌜rdT arg13 g 1 = tqn arg3 f3 1⌝)
        ∗ (∃ g, pt c arg14 g)
        ∗ (∃ g, pt c arg15 g)
        ∗ (∃ g, pt c arg16 g ∗ ⌜rdL arg16 g = maxN (fun j => scoreC (kch arg6 arg7 f6 f7 j) (tqn arg3 f3 0)) 17⌝)) -∗ Q ⟨⟩))
    ⊢ wp frame (wpE (defs₀ (F := F)) Variants.none c none) Set.univ
        (cc0_mla_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  iintro ⟨H2, H3, H4, H5, H6, H7, H8, H9, H10, H11, H12, H13, H14, H15, H16, Hk⟩
  sl_unfold [cc0_mla_attention]
  sl_exec_parts
  sl_for (before (F := F) c arg2 arg4 arg5 arg8 arg9 arg10 arg11 arg12 arg13 arg14 arg15 arg16 f2 f4 f5 f8 f9 (rdL arg16 f16)) $$ [H2 H4 H5 H8 H9 H10 H11 H12 H13 H14 H15 H16]
  · intro k acc
    exact trip_before (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f4 f5 f8 f9 (rdL arg16 f16) k acc
  · isplitr [H16]; swap; · iexists _; iexact H16
    unfold inside
    isplitl [H2]; · iexact H2
    isplitl [H4]; · iexact H4
    isplitl [H5]; · iexact H5
    isplitl [H8]; · iexact H8
    isplitl [H9]; · iexact H9
    iexists _
    iexists _
    iexists _
    iexists _
    iexists _
    iexists _
    isplitl [H10]; · iexact H10
    isplitl [H11]; · iexact H11
    isplitl [H12]; · iexact H12
    isplitl [H13]; · iexact H13
    isplitl [H14]; · iexact H14
    isplitl [H15]; · iexact H15
    ipureintro
    exact ⟨rfl, fun _ => ⟨hS, fun _ => hT⟩, fun h => absurd h (by decide), fun h => absurd h (by decide), fun h => absurd h (by decide), fun i h => absurd h (by omega)⟩
  iintro %acc ⟨Hin, %e16, H16⟩
  unfold inside
  icases Hin with ⟨H2, H4, H5, H8, H9, %g10, %g11, %g12, %g13, %g14, %g15, H10, H11, H12, H13, H14, H15, %hb⟩
  have hb6 : Before (kch arg4 arg5 f4 f5) (vch arg8 arg9 f8 f9) (tq arg2 f2) (rdL arg16 f16) arg10 arg11 arg12 arg13 arg14 arg15 6 acc g10 g11 g12 g13 g14 g15 := by
    have e : k0_t1_loop.trips = 6 := trips_eq
    rw [← e]
    exact hb
  clear hb
  sl_exec_parts
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _
    isplitl [H10]; · iexact H10
    ipureintro
    intro i
    refine Eq.trans (congrArg (fun g => rdO arg10 g i) (?_ : _ = arg10.view.writes (Elt F) g10 [⟨rO 7, finT (rdL arg15 (arg15.view.writes (Elt F) arg15.view.junk [⟨Rect.unit ![0, 0] S8x512.size inb_S8x512_S8x512_0_0, (shapeCast S8x512 (sumN (maxN (fun j => scoreC (kch arg4 arg5 f4 f5 j) (rdT arg13 g13 1)) 17) (rdS arg12 (arg12.view.writes (Elt F) arg12.view.junk (piecesN (fun j => shapeCast S256x512 (scoreC (kch arg4 arg5 f4 f5 j) (rdT arg13 g13 1)) shapeCasts_S256x512_S256x512) 17))) 17) shapeCasts_S8x512_S8x512)⟩, ⟨Rect.unit ![0, 0] S8x512.size inb_S8x512_S8x512_0_0, (shapeCast S8x512 (sumN acc (rdS arg11 g11) 17) shapeCasts_S8x512_S8x512)⟩])) (rdA arg14 (arg14.view.writes (Elt F) arg14.view.junk [⟨Rect.unit ![0, 0] S128x512.size inb_S128x512_S128x512_0_0, (shapeCast S128x512 (accN (maxN (fun j => scoreC (kch arg4 arg5 f4 f5 j) (rdT arg13 g13 1)) 17) (rdS arg12 (arg12.view.writes (Elt F) arg12.view.junk (piecesN (fun j => shapeCast S256x512 (scoreC (kch arg4 arg5 f4 f5 j) (rdT arg13 g13 1)) shapeCasts_S256x512_S256x512) 17))) (vch arg8 arg9 f8 f9) 17) shapeCasts_S128x512_S128x512)⟩, ⟨Rect.unit ![0, 0] S128x512.size inb_S128x512_S128x512_0_0, (shapeCast S128x512 (accN acc (rdS arg11 g11) (vch arg8 arg9 f8 f9) 17) shapeCasts_S128x512_S128x512)⟩]))⟩,
      ⟨rO 6, finT (rdL arg15 (arg15.view.writes (Elt F) arg15.view.junk [⟨Rect.unit ![0, 0] S8x512.size inb_S8x512_S8x512_0_0, (shapeCast S8x512 (sumN acc (rdS arg11 g11) 17) shapeCasts_S8x512_S8x512)⟩])) (rdA arg14 (arg14.view.writes (Elt F) arg14.view.junk [⟨Rect.unit ![0, 0] S128x512.size inb_S128x512_S128x512_0_0, (shapeCast S128x512 (accN acc (rdS arg11 g11) (vch arg8 arg9 f8 f9) 17) shapeCasts_S128x512_S128x512)⟩]))⟩, ⟨rO 5, finT (rdL arg15 g15) (rdA arg14 g14)⟩])) ?_
    · rfl
    · refine hb6.finish (w := (maxN (fun j => scoreC (kch arg4 arg5 f4 f5 j) (rdT arg13 g13 1)) 17)) (s := (rdS arg12 (arg12.view.writes (Elt F) arg12.view.junk (piecesN (fun j => shapeCast S256x512 (scoreC (kch arg4 arg5 f4 f5 j) (rdT arg13 g13 1)) shapeCasts_S256x512_S256x512) 17)))) rfl (fun j => ?_) ?_ ?_ ?_ ?_ i
      · exact (rdS_writes arg12 _ _ j).trans (shapeCast_self _ _)
      · exact (rdL_writes arg15 _ _ _).trans (shapeCast_self _ _)
      · exact (rdA_writes arg14 _ _ _).trans (shapeCast_self _ _)
      · exact (rdL_writes arg15 _ _ _).trans (shapeCast_self _ _)
      · exact (rdA_writes arg14 _ _ _).trans (shapeCast_self _ _)
  isplitl [H11]
  · iexists _
    isplitl [H11]; · iexact H11
    ipureintro
    intro j
    refine Eq.trans (rdS_writes arg11 g11 (fun j => shapeCast S256x512 (scoreC (kch arg6 arg7 f6 f7 j) (rdT arg13 (arg13.view.writes (Elt F) arg13.view.junk [⟨rT 0, trT3 (arg3.view.readAt (Elt F) (rQn 0).toLoadRect f3)⟩]) 0)) shapeCasts_S256x512_S256x512) j) ?_
    refine Eq.trans (shapeCast_self _ _) ?_
    rw [rdT_hit]
    rfl
  isplitl [H12]; · iexists _; iexact H12
  isplitl [H13]
  · iexists _
    isplitl [H13]; · iexact H13
    ipureintro
    exact rdT_hit arg13 g13 1 _ _
  isplitl [H14]; · iexists _; iexact H14
  isplitl [H15]; · iexists _; iexact H15
  iexists _
  isplitl [H16]; · iexact H16
  ipureintro
  refine Eq.trans (rdL_writes arg16 e16 (shapeCast S8x512 (maxN (fun j => scoreC (kch arg6 arg7 f6 f7 j) (rdT arg13 (arg13.view.writes (Elt F) arg13.view.junk [⟨rT 0, trT3 (arg3.view.readAt (Elt F) (rQn 0).toLoadRect f3)⟩]) 0)) 17) shapeCasts_S8x512_S8x512) []) ?_
  refine Eq.trans (shapeCast_self _ _) ?_
  rw [rdT_hit]
  rfl

set_option maxHeartbeats 16000000 in
/-- The first grid point. -/
theorem body_first (c : Dev nD) (i : grid0.Coords) (arg2 : Memref sig .tc .vmem S1x1x4096x256 .bf16) (harg2 : arg2.IsWhole) (arg3 : Memref sig .tc .vmem S1x1x1024x256 .bf16) (harg3 : arg3.IsWhole) (arg4 : Memref sig .tc .vmem S1x1x4096x256 .bf16) (harg4 : arg4.IsWhole) (arg5 : Memref sig .tc .vmem S1x1x256x256 .bf16) (harg5 : arg5.IsWhole) (arg6 : Memref sig .tc .vmem S1x1x4096x256 .bf16) (harg6 : arg6.IsWhole) (arg7 : Memref sig .tc .vmem S1x1x256x256 .bf16) (harg7 : arg7.IsWhole) (arg8 : Memref sig .tc .vmem S1x1x128x4096 .bf16) (harg8 : arg8.IsWhole) (arg9 : Memref sig .tc .vmem S1x1x128x256 .bf16) (harg9 : arg9.IsWhole) (arg10 : Memref sig .tc .vmem S1x4096x128 .bf16) (harg10 : arg10.IsWhole) (arg11 : Memref sig .tc .vmem S4352x512 .f32) (harg11 : arg11.IsWhole) (arg12 : Memref sig .tc .vmem S4352x512 .f32) (harg12 : arg12.IsWhole) (arg13 : Memref sig .tc .vmem S2x256x512 .bf16) (harg13 : arg13.IsWhole) (arg14 : Memref sig .tc .vmem S128x512 .f32) (harg14 : arg14.IsWhole) (arg15 : Memref sig .tc .vmem S8x512 .f32) (harg15 : arg15.IsWhole) (arg16 : Memref sig .tc .vmem S8x512 .f32) (harg16 : arg16.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16)
    (hc : k0_cond1 i = 1#1) (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16
      ∗ (iprop(pt c arg2 f2
        ∗ pt c arg3 f3
        ∗ pt c arg4 f4
        ∗ pt c arg5 f5
        ∗ pt c arg6 f6
        ∗ pt c arg7 f7
        ∗ pt c arg8 f8
        ∗ pt c arg9 f9
        ∗ (∃ g, pt c arg10 g ∗ ⌜∀ i : Fin 8, rdO arg10 g i = ot (kch arg4 arg5 f4 f5) (vch arg8 arg9 f8 f9) (tq arg2 f2) (maxN0 (sc (kch arg4 arg5 f4 f5) (tq arg2 f2) 0) 16) i.val⌝)
        ∗ (∃ g, pt c arg11 g ∗ ⌜∀ j, rdS arg11 g j = scoreC (kch arg6 arg7 f6 f7 j) (tqn arg3 f3 0)⌝)
        ∗ (∃ g, pt c arg12 g)
        ∗ (∃ g, pt c arg13 g ∗ ⌜rdT arg13 g 1 = tqn arg3 f3 1⌝)
        ∗ (∃ g, pt c arg14 g)
        ∗ (∃ g, pt c arg15 g)
        ∗ (∃ g, pt c arg16 g ∗ ⌜rdL arg16 g = maxN (fun j => scoreC (kch arg6 arg7 f6 f7 j) (tqn arg3 f3 0)) 17⌝)) -∗ Q ⟨⟩))
    ⊢ wp frame (wpE (defs₀ (F := F)) Variants.none c none) Set.univ
        (cc0_mla_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  iintro ⟨H2, H3, H4, H5, H6, H7, H8, H9, H10, H11, H12, H13, H14, H15, H16, Hk⟩
  sl_unfold [cc0_mla_attention]
  sl_exec_parts
  sl_for (before (F := F) c arg2 arg4 arg5 arg8 arg9 arg10 arg11 arg12 arg13 arg14 arg15 arg16 f2 f4 f5 f8 f9 (maxN0 (sc (kch arg4 arg5 f4 f5) (tq arg2 f2) 0) 16)) $$ [H2 H4 H5 H8 H9 H10 H11 H12 H13 H14 H15 H16]
  · intro k acc
    exact trip_before (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f4 f5 f8 f9 (maxN0 (sc (kch arg4 arg5 f4 f5) (tq arg2 f2) 0) 16) k acc
  · isplitr [H16]; swap; · iexists _; iexact H16
    unfold inside
    isplitl [H2]; · iexact H2
    isplitl [H4]; · iexact H4
    isplitl [H5]; · iexact H5
    isplitl [H8]; · iexact H8
    isplitl [H9]; · iexact H9
    iexists _
    iexists _
    iexists _
    iexists _
    iexists _
    iexists _
    isplitl [H10]; · iexact H10
    isplitl [H11]; · iexact H11
    isplitl [H12]; · iexact H12
    isplitl [H13]; · iexact H13
    isplitl [H14]; · iexact H14
    isplitl [H15]; · iexact H15
    ipureintro
    refine ⟨?_, fun _ => ⟨fun j => ?_, fun _ => ?_⟩, fun h => absurd h (by decide), fun h => absurd h (by decide), fun h => absurd h (by decide), fun i h => absurd h (by omega)⟩
    · refine Eq.trans (rdL_writes arg16 arg16.view.junk (shapeCast S8x512 (maxN0 (sc (kch arg4 arg5 f4 f5) (tq arg2 f2) 0) 16) shapeCasts_S8x512_S8x512) []) ?_
      exact shapeCast_self _ _
    · refine Eq.trans (rdS_writes arg11 arg11.view.junk (fun j => shapeCast S256x512 (sc (kch arg4 arg5 f4 f5) (tq arg2 f2) 0 j) shapeCasts_S256x512_S256x512) j) ?_
      exact shapeCast_self _ _
    · exact rdT_hit arg13 f13 1 _ []
  iintro %acc ⟨Hin, %e16, H16⟩
  unfold inside
  icases Hin with ⟨H2, H4, H5, H8, H9, %g10, %g11, %g12, %g13, %g14, %g15, H10, H11, H12, H13, H14, H15, %hb⟩
  have hb6 : Before (kch arg4 arg5 f4 f5) (vch arg8 arg9 f8 f9) (tq arg2 f2) (maxN0 (sc (kch arg4 arg5 f4 f5) (tq arg2 f2) 0) 16) arg10 arg11 arg12 arg13 arg14 arg15 6 acc g10 g11 g12 g13 g14 g15 := by
    have e : k0_t1_loop.trips = 6 := trips_eq
    rw [← e]
    exact hb
  clear hb
  sl_exec_parts
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _
    isplitl [H10]; · iexact H10
    ipureintro
    intro i
    refine Eq.trans (congrArg (fun g => rdO arg10 g i) (?_ : _ = arg10.view.writes (Elt F) g10 [⟨rO 7, finT (rdL arg15 (arg15.view.writes (Elt F) arg15.view.junk [⟨Rect.unit ![0, 0] S8x512.size inb_S8x512_S8x512_0_0, (shapeCast S8x512 (sumN (maxN (fun j => scoreC (kch arg4 arg5 f4 f5 j) (rdT arg13 g13 1)) 17) (rdS arg12 (arg12.view.writes (Elt F) arg12.view.junk (piecesN (fun j => shapeCast S256x512 (scoreC (kch arg4 arg5 f4 f5 j) (rdT arg13 g13 1)) shapeCasts_S256x512_S256x512) 17))) 17) shapeCasts_S8x512_S8x512)⟩, ⟨Rect.unit ![0, 0] S8x512.size inb_S8x512_S8x512_0_0, (shapeCast S8x512 (sumN acc (rdS arg11 g11) 17) shapeCasts_S8x512_S8x512)⟩])) (rdA arg14 (arg14.view.writes (Elt F) arg14.view.junk [⟨Rect.unit ![0, 0] S128x512.size inb_S128x512_S128x512_0_0, (shapeCast S128x512 (accN (maxN (fun j => scoreC (kch arg4 arg5 f4 f5 j) (rdT arg13 g13 1)) 17) (rdS arg12 (arg12.view.writes (Elt F) arg12.view.junk (piecesN (fun j => shapeCast S256x512 (scoreC (kch arg4 arg5 f4 f5 j) (rdT arg13 g13 1)) shapeCasts_S256x512_S256x512) 17))) (vch arg8 arg9 f8 f9) 17) shapeCasts_S128x512_S128x512)⟩, ⟨Rect.unit ![0, 0] S128x512.size inb_S128x512_S128x512_0_0, (shapeCast S128x512 (accN acc (rdS arg11 g11) (vch arg8 arg9 f8 f9) 17) shapeCasts_S128x512_S128x512)⟩]))⟩,
      ⟨rO 6, finT (rdL arg15 (arg15.view.writes (Elt F) arg15.view.junk [⟨Rect.unit ![0, 0] S8x512.size inb_S8x512_S8x512_0_0, (shapeCast S8x512 (sumN acc (rdS arg11 g11) 17) shapeCasts_S8x512_S8x512)⟩])) (rdA arg14 (arg14.view.writes (Elt F) arg14.view.junk [⟨Rect.unit ![0, 0] S128x512.size inb_S128x512_S128x512_0_0, (shapeCast S128x512 (accN acc (rdS arg11 g11) (vch arg8 arg9 f8 f9) 17) shapeCasts_S128x512_S128x512)⟩]))⟩, ⟨rO 5, finT (rdL arg15 g15) (rdA arg14 g14)⟩])) ?_
    · rfl
    · refine hb6.finish (w := (maxN (fun j => scoreC (kch arg4 arg5 f4 f5 j) (rdT arg13 g13 1)) 17)) (s := (rdS arg12 (arg12.view.writes (Elt F) arg12.view.junk (piecesN (fun j => shapeCast S256x512 (scoreC (kch arg4 arg5 f4 f5 j) (rdT arg13 g13 1)) shapeCasts_S256x512_S256x512) 17)))) rfl (fun j => ?_) ?_ ?_ ?_ ?_ i
      · exact (rdS_writes arg12 _ _ j).trans (shapeCast_self _ _)
      · exact (rdL_writes arg15 _ _ _).trans (shapeCast_self _ _)
      · exact (rdA_writes arg14 _ _ _).trans (shapeCast_self _ _)
      · exact (rdL_writes arg15 _ _ _).trans (shapeCast_self _ _)
      · exact (rdA_writes arg14 _ _ _).trans (shapeCast_self _ _)
  isplitl [H11]
  · iexists _
    isplitl [H11]; · iexact H11
    ipureintro
    intro j
    refine Eq.trans (rdS_writes arg11 g11 (fun j => shapeCast S256x512 (scoreC (kch arg6 arg7 f6 f7 j) (rdT arg13 (arg13.view.writes (Elt F) arg13.view.junk [⟨rT 0, trT3 (arg3.view.readAt (Elt F) (rQn 0).toLoadRect f3)⟩]) 0)) shapeCasts_S256x512_S256x512) j) ?_
    refine Eq.trans (shapeCast_self _ _) ?_
    rw [rdT_hit]
    rfl
  isplitl [H12]; · iexists _; iexact H12
  isplitl [H13]
  · iexists _
    isplitl [H13]; · iexact H13
    ipureintro
    exact rdT_hit arg13 g13 1 _ _
  isplitl [H14]; · iexists _; iexact H14
  isplitl [H15]; · iexists _; iexact H15
  iexists _
  isplitl [H16]; · iexact H16
  ipureintro
  refine Eq.trans (rdL_writes arg16 e16 (shapeCast S8x512 (maxN (fun j => scoreC (kch arg6 arg7 f6 f7 j) (rdT arg13 (arg13.view.writes (Elt F) arg13.view.junk [⟨rT 0, trT3 (arg3.view.readAt (Elt F) (rQn 0).toLoadRect f3)⟩]) 0)) 17) shapeCasts_S8x512_S8x512) []) ?_
  refine Eq.trans (shapeCast_self _ _) ?_
  rw [rdT_hit]
  rfl

end Cert.KernelIdeal.Attn

end
-- ==== Proof.KernelIdeal.Data.lean ====
module

public import proofs.«01_k».proof.Proof.KernelIdeal.Body
public import Idealize.ShloMosaic.Lib.Pipeline.Value

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The same values, of the blocks the buffers hold -/

abbrev Qb (F : FTy → Type) := Vec F S1x1x4096x256 .bf16
abbrev Nb (F : FTy → Type) := Vec F S1x1x1024x256 .bf16
abbrev Cb (F : FTy → Type) := Vec F S1x1x256x256 .bf16
abbrev Vb (F : FTy → Type) := Vec F S1x1x128x4096 .bf16
abbrev Wb (F : FTy → Type) := Vec F S1x1x128x256 .bf16

def kchB (X : Qb F) (Y : Cb F) (j : Fin 17) : Cb F := if h : j.val < 16 then View.ld X (rK ⟨j.val, h⟩) else Y
def vchB (X : Vb F) (Y : Wb F) (j : Fin 17) : Wb F := if h : j.val < 16 then View.ld X (rV ⟨j.val, h⟩) else Y
def tqB (X : Qb F) (i : ℕ) : FVec F S256x512 .bf16 := trT (View.ld X (rQ (Fin.ofNat 8 i)))
def tqnB (X : Nb F) (i : Fin 2) : FVec F S256x512 .bf16 := trT (View.ld X (rQn i))

section
variable {κ : Kind} {sp sp' : Space}

theorem z4 : (![0, 0, 0, 0] : Fin 4 → ℕ) = fun _ => 0 := funext fun a => by fin_cases a <;> rfl

theorem kch_eq (K : Memref sig κ sp S1x1x4096x256 .bf16) (C : Memref sig κ sp' S1x1x256x256 .bf16) (f : K.view.ty.Contents (Elt F)) (g : C.view.ty.Contents (Elt F))
    (X : Qb F) (Y : Cb F) (hX : K.view.read (Elt F) f = X) (hY : C.view.read (Elt F) g = Y) : kch K C f g = kchB X Y := by
  subst hX hY
  funext j
  unfold kch kchB
  split
  · rfl
  · exact View.ld_unit_zero z4 _ _
theorem vch_eq (K : Memref sig κ sp S1x1x128x4096 .bf16) (C : Memref sig κ sp' S1x1x128x256 .bf16) (f : K.view.ty.Contents (Elt F)) (g : C.view.ty.Contents (Elt F))
    (X : Vb F) (Y : Wb F) (hX : K.view.read (Elt F) f = X) (hY : C.view.read (Elt F) g = Y) : vch K C f g = vchB X Y := by
  subst hX hY
  funext j
  unfold vch vchB
  split
  · rfl
  · exact View.ld_unit_zero z4 _ _
theorem tq_eq (M : Memref sig κ sp S1x1x4096x256 .bf16) (f : M.view.ty.Contents (Elt F)) (X : Qb F) (hX : M.view.read (Elt F) f = X) : tq M f = tqB X := by
  subst hX; rfl
theorem tqn_eq (M : Memref sig κ sp S1x1x1024x256 .bf16) (f : M.view.ty.Contents (Elt F)) (X : Nb F) (hX : M.view.read (Elt F) f = X) : tqn M f = tqnB X := by
  subst hX; rfl
end

/-- The index of a tile's entry. -/
def ix3 (r : Fin 512) (d : Fin 128) : S1x512x128.Idx := fun
  | ⟨0, _⟩ => ⟨0, Nat.zero_lt_one⟩
  | ⟨1, _⟩ => ⟨r.val, r.isLt⟩
  | ⟨2, _⟩ => ⟨d.val, d.isLt⟩

/-- The head's result, from its eight tiles. -/
def outB (T : ℕ → Vec F S1x512x128 .bf16) : Vec F S1x4096x128 .bf16 := fun y =>
  T ((y 1).val / 512) (ix3 ⟨(y 1).val % 512, Nat.mod_lt _ (by decide)⟩ ⟨(y 2).val, (y 2).isLt⟩)

theorem outB_of {κ : Kind} {sp : Space} (M : Memref sig κ sp S1x4096x128 .bf16) (g : M.view.ty.Contents (Elt F)) (T : ℕ → Vec F S1x512x128 .bf16)
    (h : ∀ i : Fin 8, rdO M g i = T i.val) : M.view.read (Elt F) g = outB T := by
  funext y
  have y1 : (y 1).val < 4096 := (y 1).isLt
  have y0 : (y 0).val < 1 := (y 0).isLt
  have hi : (y 1).val / 512 < 8 := by omega
  refine Eq.trans ?_ (congrFun (h ⟨(y 1).val / 512, hi⟩) (ix3 ⟨(y 1).val % 512, Nat.mod_lt _ (by decide)⟩ ⟨(y 2).val, (y 2).isLt⟩))
  show M.view.read (Elt F) g y = M.view.read (Elt F) g _
  congr 1
  funext a
  apply Fin.ext
  match a with
  | ⟨0, _⟩ => show (y 0).val = 0 + 1 * 0; omega
  | ⟨1, _⟩ => show (y 1).val = 512 * ((y 1).val / 512) + 1 * ((y 1).val % 512); omega
  | ⟨2, _⟩ => show (y 2).val = 0 + 1 * (y 2).val; omega

/-! ## The proof data -/

variable (m : (ℓ : Loc nD τ sig) → Buf (Elt F) ℓ) (ρ : Dev nD → PrngReg)

/-- At point `t`: the head's keys, values and transposed query tiles, the largest scores of its tile 0 as its first tile finds
    them, and its result; the next head's keys and its first two query tiles. -/
def kAt (c : Dev nD) (t : Fin cfg0.N) : Fin 17 → Cb F := kchB (iblk m c 2 t) (iblk m c 3 t)
def vAt (c : Dev nD) (t : Fin cfg0.N) : Fin 17 → Wb F := vchB (iblk m c 6 t) (iblk m c 7 t)
def qAt (c : Dev nD) (t : Fin cfg0.N) : ℕ → FVec F S256x512 .bf16 := tqB (iblk m c 0 t)
def knAt (c : Dev nD) (t : Fin cfg0.N) : Fin 17 → Cb F := kchB (iblk m c 4 t) (iblk m c 5 t)
def qnAt (c : Dev nD) (t : Fin cfg0.N) : Fin 2 → FVec F S256x512 .bf16 := tqnB (iblk m c 1 t)
def m0At (c : Dev nD) (t : Fin cfg0.N) : FVec F S8x512 .f32 :=
  if t.val = 0 then maxN0 (sc (kAt m c t) (qAt m c t) 0) 16 else maxN (sc (kAt m c t) (qAt m c t) 0) 17
def outAt (c : Dev nD) (t : Fin cfg0.N) : Vec F S1x4096x128 .bf16 := outB (ot (kAt m c t) (vAt m c t) (qAt m c t) (m0At m c t))

abbrev sM0 : Memref sig .tc .vmem S4352x512 .f32 := Memref.whole cc0_scratch0
abbrev sM1 : Memref sig .tc .vmem S4352x512 .f32 := Memref.whole cc0_scratch1
abbrev sM2 : Memref sig .tc .vmem S2x256x512 .bf16 := Memref.whole cc0_scratch2
abbrev sM3 : Memref sig .tc .vmem S128x512 .f32 := Memref.whole cc0_scratch3
abbrev sM4 : Memref sig .tc .vmem S8x512 .f32 := Memref.whole cc0_scratch4
abbrev sM5 : Memref sig .tc .vmem S8x512 .f32 := Memref.whole cc0_scratch5

/-- The scratch at anything, -/
def scrAny (c : Dev nD) : sProp 𝕄 :=
  iprop((∃ f, pt (F := F) c sM0 f) ∗ (∃ f, pt (F := F) c sM1 f) ∗ (∃ f, pt (F := F) c sM2 f) ∗ (∃ f, pt (F := F) c sM3 f) ∗ (∃ f, pt (F := F) c sM4 f) ∗ (∃ f, pt (F := F) c sM5 f))
/-- and as point `t` leaves it: the next head's first scores and their largest, its tile 1 in slot 1. -/
def scrAt (c : Dev nD) (t : Fin cfg0.N) : sProp 𝕄 :=
  iprop((∃ f, pt (F := F) c sM0 f ∗ ⌜∀ j, rdS sM0 f j = scoreC (knAt m c t j) (qnAt m c t 0)⌝) ∗ (∃ f, pt (F := F) c sM1 f)
    ∗ (∃ f, pt (F := F) c sM2 f ∗ ⌜rdT sM2 f 1 = qnAt m c t 1⌝) ∗ (∃ f, pt (F := F) c sM3 f) ∗ (∃ f, pt (F := F) c sM4 f)
    ∗ (∃ f, pt (F := F) c sM5 f ∗ ⌜rdL sM5 f = maxN (fun j => scoreC (knAt m c t j) (qnAt m c t 0)) 17⌝))
def scr (c : Dev nD) : (n : ℕ) → n ≤ cfg0.N → sProp 𝕄
  | 0, _ => scrAny c
  | n + 1, h => scrAt m c ⟨n, h⟩

theorem scr_zero (c : Dev nD) (n : ℕ) (h : n ≤ cfg0.N) (hn : n = 0) : scr m c n h = scrAny c := by subst hn; rfl
theorem scr_pos (c : Dev nD) (n : ℕ) (h : n ≤ cfg0.N) (hn : n ≠ 0) : scr m c n h = scrAt m c ⟨n - 1, by omega⟩ := by
  cases n with
  | zero => exact absurd rfl hn
  | succ k => rfl
theorem scrAt_any (c : Dev nD) (t : Fin cfg0.N) : scrAt m c t ⊢ scrAny (F := F) c := by
  unfold scrAt scrAny
  iintro ⟨⟨%f0, H0, -⟩, H1, ⟨%f2, H2, -⟩, H3, H4, ⟨%f5, H5, -⟩⟩
  isplitl [H0]; · iexists _; iexact H0
  isplitl [H1]; · iexact H1
  isplitl [H2]; · iexists _; iexact H2
  isplitl [H3]; · iexact H3
  isplitl [H4]; · iexact H4
  iexists _; iexact H5
theorem scr_any (c : Dev nD) (n : ℕ) (h : n ≤ cfg0.N) : scr m c n h ⊢ scrAny (F := F) c := by
  cases n with
  | zero => exact .rfl
  | succ k => exact scrAt_any m c ⟨k, h⟩

theorem scopedRest_scr (c : Dev nD) :
    (Pipeline.scopedRest (Ix := Unit) (Name := ℕ) (U := UR sig nD τ) (Lvl := ℕ) (Val := Elt F) spec0 c : sProp 𝕄) = scrAny c := by
  rw [scopedRest0_eq]; rfl

def dats (_ : Fin 1) (c : Dev nD) : Dat τ (Elt F) Unit ℕ (UR sig nD τ) ℕ cfg0 c where
  A w := V m c (Pipeline.arrRef spec0 w)
  after
    | ⟨0, _⟩, t => iblk m c 0 t
    | ⟨1, _⟩, t => iblk m c 1 t
    | ⟨2, _⟩, t => iblk m c 2 t
    | ⟨3, _⟩, t => iblk m c 3 t
    | ⟨4, _⟩, t => iblk m c 4 t
    | ⟨5, _⟩, t => iblk m c 5 t
    | ⟨6, _⟩, t => iblk m c 6 t
    | ⟨7, _⟩, t => iblk m c 7 t
    | ⟨8, _⟩, t => outAt m c t
  Φ t := iprop(scr m c t.val (Nat.le_of_lt_succ t.isLt) ∗ ∃ r, prngReg c r)
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t := before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t := before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t := before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t := before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t := before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t := before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t := before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t := before0_7_of m (dats m 0 c) (A_eq m c 7) (after_7 m c) t d
theorem after_8 (c : Dev nD) (t : Fin cfg0.N) : (dats m 0 c).after 8 t = outAt m c t := by dsimp only [dats]
theorem Phi_pre (c : Dev nD) (t : Fin cfg0.N) : (dats m 0 c).Φ t.castSucc = iprop(scr m c t.val (Nat.le_of_lt t.isLt) ∗ ∃ r, prngReg c r) := by
  dsimp only [dats]
  rfl
theorem Phi_post (c : Dev nD) (t : Fin cfg0.N) : (dats m 0 c).Φ t.succ = iprop(scrAt m c t ∗ ∃ r, prngReg c r) := by
  dsimp only [dats]
  rfl

/-! ## The schedule in closed form -/

theorem first_iff : ∀ t : Fin cfg0.N, k0_cond1 (grid0.coords t) = 1#1 ↔ t.val = 0 :=
  (by decide +kernel : ∀ t : Fin grid0.N, k0_cond1 (grid0.coords t) = 1#1 ↔ t.val = 0)

/-- Window `w`'s block is head `t % 8` of batch `t / 8`, -/
theorem idx0 : ∀ t : Fin cfg0.N, win0_0.index t 0 = t.val / 8 ∧ win0_0.index t 1 = t.val % 8 ∧ win0_0.index t 2 = 0 ∧ win0_0.index t 3 = 0 :=
  (by decide +kernel : ∀ t : Fin grid0.N, win0_0.index t 0 = t.val / 8 ∧ win0_0.index t 1 = t.val % 8 ∧ win0_0.index t 2 = 0 ∧ win0_0.index t 3 = 0)
theorem idx2 : ∀ t : Fin cfg0.N, win0_2.index t 0 = t.val / 8 ∧ win0_2.index t 1 = t.val % 8 ∧ win0_2.index t 2 = 0 ∧ win0_2.index t 3 = 0 :=
  (by decide +kernel : ∀ t : Fin grid0.N, win0_2.index t 0 = t.val / 8 ∧ win0_2.index t 1 = t.val % 8 ∧ win0_2.index t 2 = 0 ∧ win0_2.index t 3 = 0)
theorem idx3 : ∀ t : Fin cfg0.N, win0_3.index t 0 = t.val / 8 ∧ win0_3.index t 1 = t.val % 8 ∧ win0_3.index t 2 = 0 ∧ win0_3.index t 3 = 0 :=
  (by decide +kernel : ∀ t : Fin grid0.N, win0_3.index t 0 = t.val / 8 ∧ win0_3.index t 1 = t.val % 8 ∧ win0_3.index t 2 = 0 ∧ win0_3.index t 3 = 0)
theorem idx6 : ∀ t : Fin cfg0.N, win0_6.index t 0 = t.val / 8 ∧ win0_6.index t 1 = t.val % 8 ∧ win0_6.index t 2 = 0 ∧ win0_6.index t 3 = 0 :=
  (by decide +kernel : ∀ t : Fin grid0.N, win0_6.index t 0 = t.val / 8 ∧ win0_6.index t 1 = t.val % 8 ∧ win0_6.index t 2 = 0 ∧ win0_6.index t 3 = 0)
theorem idx7 : ∀ t : Fin cfg0.N, win0_7.index t 0 = t.val / 8 ∧ win0_7.index t 1 = t.val % 8 ∧ win0_7.index t 2 = 0 ∧ win0_7.index t 3 = 0 :=
  (by decide +kernel : ∀ t : Fin grid0.N, win0_7.index t 0 = t.val / 8 ∧ win0_7.index t 1 = t.val % 8 ∧ win0_7.index t 2 = 0 ∧ win0_7.index t 3 = 0)
theorem idx8 : ∀ t : Fin cfg0.N, win0_8.index t 0 = t.val / 8 ∧ win0_8.index t 1 = 0 ∧ win0_8.index t 2 = t.val % 8 :=
  (by decide +kernel : ∀ t : Fin grid0.N, win0_8.index t 0 = t.val / 8 ∧ win0_8.index t 1 = 0 ∧ win0_8.index t 2 = t.val % 8)
/-- and the next head's windows are one head ahead. -/
theorem idx1 : ∀ t u : Fin cfg0.N, t.val = u.val + 1 → win0_1.index u 0 = t.val / 8 ∧ win0_1.index u 1 = t.val % 8 ∧ win0_1.index u 2 = 0 ∧ win0_1.index u 3 = 0 :=
  (by decide +kernel : ∀ t u : Fin grid0.N, t.val = u.val + 1 → win0_1.index u 0 = t.val / 8 ∧ win0_1.index u 1 = t.val % 8 ∧ win0_1.index u 2 = 0 ∧ win0_1.index u 3 = 0)
theorem idx4 : ∀ t u : Fin cfg0.N, t.val = u.val + 1 → win0_4.index u 0 = t.val / 8 ∧ win0_4.index u 1 = t.val % 8 ∧ win0_4.index u 2 = 0 ∧ win0_4.index u 3 = 0 :=
  (by decide +kernel : ∀ t u : Fin grid0.N, t.val = u.val + 1 → win0_4.index u 0 = t.val / 8 ∧ win0_4.index u 1 = t.val % 8 ∧ win0_4.index u 2 = 0 ∧ win0_4.index u 3 = 0)
theorem idx5 : ∀ t u : Fin cfg0.N, t.val = u.val + 1 → win0_5.index u 0 = t.val / 8 ∧ win0_5.index u 1 = t.val % 8 ∧ win0_5.index u 2 = 0 ∧ win0_5.index u 3 = 0 :=
  (by decide +kernel : ∀ t u : Fin grid0.N, t.val = u.val + 1 → win0_5.index u 0 = t.val / 8 ∧ win0_5.index u 1 = t.val % 8 ∧ win0_5.index u 2 = 0 ∧ win0_5.index u 3 = 0)

theorem lt32 (t : Fin cfg0.N) : t.val < 32 := lt_of_lt_of_eq t.isLt N_0
/-- The index of an entry of head `t`. -/
def at4x8x4096x256 (t : Fin cfg0.N) (r : ℕ) (hr : r < 4096) (e : ℕ) (he : e < 256) : S4x8x4096x256.Idx := fun
  | ⟨0, _⟩ => ⟨t.val / 8, by have := lt32 t; show t.val / 8 < 4; omega⟩
  | ⟨1, _⟩ => ⟨t.val % 8, by show t.val % 8 < 8; omega⟩
  | ⟨2, _⟩ => ⟨r, hr⟩
  | ⟨3, _⟩ => ⟨e, he⟩
/-- The index of an entry of head `t`. -/
def at4x8x256x256 (t : Fin cfg0.N) (r : ℕ) (hr : r < 256) (e : ℕ) (he : e < 256) : S4x8x256x256.Idx := fun
  | ⟨0, _⟩ => ⟨t.val / 8, by have := lt32 t; show t.val / 8 < 4; omega⟩
  | ⟨1, _⟩ => ⟨t.val % 8, by show t.val % 8 < 8; omega⟩
  | ⟨2, _⟩ => ⟨r, hr⟩
  | ⟨3, _⟩ => ⟨e, he⟩
/-- The index of an entry of head `t`. -/
def at4x8x128x4096 (t : Fin cfg0.N) (r : ℕ) (hr : r < 128) (e : ℕ) (he : e < 4096) : S4x8x128x4096.Idx := fun
  | ⟨0, _⟩ => ⟨t.val / 8, by have := lt32 t; show t.val / 8 < 4; omega⟩
  | ⟨1, _⟩ => ⟨t.val % 8, by show t.val % 8 < 8; omega⟩
  | ⟨2, _⟩ => ⟨r, hr⟩
  | ⟨3, _⟩ => ⟨e, he⟩
/-- The index of an entry of head `t`. -/
def at4x8x128x256 (t : Fin cfg0.N) (r : ℕ) (hr : r < 128) (e : ℕ) (he : e < 256) : S4x8x128x256.Idx := fun
  | ⟨0, _⟩ => ⟨t.val / 8, by have := lt32 t; show t.val / 8 < 4; omega⟩
  | ⟨1, _⟩ => ⟨t.val % 8, by show t.val % 8 < 8; omega⟩
  | ⟨2, _⟩ => ⟨r, hr⟩
  | ⟨3, _⟩ => ⟨e, he⟩
theorem iblk0_apply (c : Dev nD) (t : Fin cfg0.N) (y : S1x1x4096x256.Idx) :
    (iblk m c 0 t : Vec F S1x1x4096x256 .bf16) y = m ((c : Thread nD τ).loc main_arg0) (at4x8x4096x256 t (y 2).val (y 2).isLt (y 3).val (y 3).isLt) := by
  obtain ⟨h0, h1, h2, h3⟩ := idx0 t
  have y0 : (y 0).val < 1 := (y 0).isLt
  have y1 : (y 1).val < 1 := (y 1).isLt
  unfold iblk
  rw [View.read_apply]
  show V m c main_arg0 _ = m (c.tc.loc main_arg0) _
  unfold V
  congr 1
  funext a
  apply Fin.ext
  match a with
  | ⟨0, _⟩ => show win0_0.index t 0 * 1 + 1 * (y 0).val = t.val / 8; rw [h0]; omega
  | ⟨1, _⟩ => show win0_0.index t 1 * 1 + 1 * (y 1).val = t.val % 8; rw [h1]; omega
  | ⟨2, _⟩ => show win0_0.index t 2 * 4096 + 1 * (y 2).val = (y 2).val; rw [h2]; omega
  | ⟨3, _⟩ => show win0_0.index t 3 * 256 + 1 * (y 3).val = (y 3).val; rw [h3]; omega
theorem iblk1_apply (c : Dev nD) (t u : Fin cfg0.N) (h : t.val = u.val + 1) (y : S1x1x1024x256.Idx) :
    (iblk m c 1 u : Vec F S1x1x1024x256 .bf16) y = m ((c : Thread nD τ).loc main_arg0) (at4x8x4096x256 t (y 2).val (lt_of_lt_of_le (y 2).isLt (by decide)) (y 3).val (y 3).isLt) := by
  obtain ⟨h0, h1, h2, h3⟩ := idx1 t u h
  have y0 : (y 0).val < 1 := (y 0).isLt
  have y1 : (y 1).val < 1 := (y 1).isLt
  unfold iblk
  rw [View.read_apply]
  show V m c main_arg0 _ = m (c.tc.loc main_arg0) _
  unfold V
  congr 1
  funext a
  apply Fin.ext
  match a with
  | ⟨0, _⟩ => show win0_1.index u 0 * 1 + 1 * (y 0).val = t.val / 8; rw [h0]; omega
  | ⟨1, _⟩ => show win0_1.index u 1 * 1 + 1 * (y 1).val = t.val % 8; rw [h1]; omega
  | ⟨2, _⟩ => show win0_1.index u 2 * 1024 + 1 * (y 2).val = (y 2).val; rw [h2]; omega
  | ⟨3, _⟩ => show win0_1.index u 3 * 256 + 1 * (y 3).val = (y 3).val; rw [h3]; omega
theorem iblk2_apply (c : Dev nD) (t : Fin cfg0.N) (y : S1x1x4096x256.Idx) :
    (iblk m c 2 t : Vec F S1x1x4096x256 .bf16) y = m ((c : Thread nD τ).loc main_arg1) (at4x8x4096x256 t (y 2).val (y 2).isLt (y 3).val (y 3).isLt) := by
  obtain ⟨h0, h1, h2, h3⟩ := idx2 t
  have y0 : (y 0).val < 1 := (y 0).isLt
  have y1 : (y 1).val < 1 := (y 1).isLt
  unfold iblk
  rw [View.read_apply]
  show V m c main_arg1 _ = m (c.tc.loc main_arg1) _
  unfold V
  congr 1
  funext a
  apply Fin.ext
  match a with
  | ⟨0, _⟩ => show win0_2.index t 0 * 1 + 1 * (y 0).val = t.val / 8; rw [h0]; omega
  | ⟨1, _⟩ => show win0_2.index t 1 * 1 + 1 * (y 1).val = t.val % 8; rw [h1]; omega
  | ⟨2, _⟩ => show win0_2.index t 2 * 4096 + 1 * (y 2).val = (y 2).val; rw [h2]; omega
  | ⟨3, _⟩ => show win0_2.index t 3 * 256 + 1 * (y 3).val = (y 3).val; rw [h3]; omega
theorem iblk3_apply (c : Dev nD) (t : Fin cfg0.N) (y : S1x1x256x256.Idx) :
    (iblk m c 3 t : Vec F S1x1x256x256 .bf16) y = m ((c : Thread nD τ).loc main_arg2) (at4x8x256x256 t (y 2).val (y 2).isLt (y 3).val (y 3).isLt) := by
  obtain ⟨h0, h1, h2, h3⟩ := idx3 t
  have y0 : (y 0).val < 1 := (y 0).isLt
  have y1 : (y 1).val < 1 := (y 1).isLt
  unfold iblk
  rw [View.read_apply]
  show V m c main_arg2 _ = m (c.tc.loc main_arg2) _
  unfold V
  congr 1
  funext a
  apply Fin.ext
  match a with
  | ⟨0, _⟩ => show win0_3.index t 0 * 1 + 1 * (y 0).val = t.val / 8; rw [h0]; omega
  | ⟨1, _⟩ => show win0_3.index t 1 * 1 + 1 * (y 1).val = t.val % 8; rw [h1]; omega
  | ⟨2, _⟩ => show win0_3.index t 2 * 256 + 1 * (y 2).val = (y 2).val; rw [h2]; omega
  | ⟨3, _⟩ => show win0_3.index t 3 * 256 + 1 * (y 3).val = (y 3).val; rw [h3]; omega
theorem iblk4_apply (c : Dev nD) (t u : Fin cfg0.N) (h : t.val = u.val + 1) (y : S1x1x4096x256.Idx) :
    (iblk m c 4 u : Vec F S1x1x4096x256 .bf16) y = m ((c : Thread nD τ).loc main_arg1) (at4x8x4096x256 t (y 2).val (y 2).isLt (y 3).val (y 3).isLt) := by
  obtain ⟨h0, h1, h2, h3⟩ := idx4 t u h
  have y0 : (y 0).val < 1 := (y 0).isLt
  have y1 : (y 1).val < 1 := (y 1).isLt
  unfold iblk
  rw [View.read_apply]
  show V m c main_arg1 _ = m (c.tc.loc main_arg1) _
  unfold V
  congr 1
  funext a
  apply Fin.ext
  match a with
  | ⟨0, _⟩ => show win0_4.index u 0 * 1 + 1 * (y 0).val = t.val / 8; rw [h0]; omega
  | ⟨1, _⟩ => show win0_4.index u 1 * 1 + 1 * (y 1).val = t.val % 8; rw [h1]; omega
  | ⟨2, _⟩ => show win0_4.index u 2 * 4096 + 1 * (y 2).val = (y 2).val; rw [h2]; omega
  | ⟨3, _⟩ => show win0_4.index u 3 * 256 + 1 * (y 3).val = (y 3).val; rw [h3]; omega
theorem iblk5_apply (c : Dev nD) (t u : Fin cfg0.N) (h : t.val = u.val + 1) (y : S1x1x256x256.Idx) :
    (iblk m c 5 u : Vec F S1x1x256x256 .bf16) y = m ((c : Thread nD τ).loc main_arg2) (at4x8x256x256 t (y 2).val (y 2).isLt (y 3).val (y 3).isLt) := by
  obtain ⟨h0, h1, h2, h3⟩ := idx5 t u h
  have y0 : (y 0).val < 1 := (y 0).isLt
  have y1 : (y 1).val < 1 := (y 1).isLt
  unfold iblk
  rw [View.read_apply]
  show V m c main_arg2 _ = m (c.tc.loc main_arg2) _
  unfold V
  congr 1
  funext a
  apply Fin.ext
  match a with
  | ⟨0, _⟩ => show win0_5.index u 0 * 1 + 1 * (y 0).val = t.val / 8; rw [h0]; omega
  | ⟨1, _⟩ => show win0_5.index u 1 * 1 + 1 * (y 1).val = t.val % 8; rw [h1]; omega
  | ⟨2, _⟩ => show win0_5.index u 2 * 256 + 1 * (y 2).val = (y 2).val; rw [h2]; omega
  | ⟨3, _⟩ => show win0_5.index u 3 * 256 + 1 * (y 3).val = (y 3).val; rw [h3]; omega
theorem iblk6_apply (c : Dev nD) (t : Fin cfg0.N) (y : S1x1x128x4096.Idx) :
    (iblk m c 6 t : Vec F S1x1x128x4096 .bf16) y = m ((c : Thread nD τ).loc main_arg3) (at4x8x128x4096 t (y 2).val (y 2).isLt (y 3).val (y 3).isLt) := by
  obtain ⟨h0, h1, h2, h3⟩ := idx6 t
  have y0 : (y 0).val < 1 := (y 0).isLt
  have y1 : (y 1).val < 1 := (y 1).isLt
  unfold iblk
  rw [View.read_apply]
  show V m c main_arg3 _ = m (c.tc.loc main_arg3) _
  unfold V
  congr 1
  funext a
  apply Fin.ext
  match a with
  | ⟨0, _⟩ => show win0_6.index t 0 * 1 + 1 * (y 0).val = t.val / 8; rw [h0]; omega
  | ⟨1, _⟩ => show win0_6.index t 1 * 1 + 1 * (y 1).val = t.val % 8; rw [h1]; omega
  | ⟨2, _⟩ => show win0_6.index t 2 * 128 + 1 * (y 2).val = (y 2).val; rw [h2]; omega
  | ⟨3, _⟩ => show win0_6.index t 3 * 4096 + 1 * (y 3).val = (y 3).val; rw [h3]; omega
theorem iblk7_apply (c : Dev nD) (t : Fin cfg0.N) (y : S1x1x128x256.Idx) :
    (iblk m c 7 t : Vec F S1x1x128x256 .bf16) y = m ((c : Thread nD τ).loc main_arg4) (at4x8x128x256 t (y 2).val (y 2).isLt (y 3).val (y 3).isLt) := by
  obtain ⟨h0, h1, h2, h3⟩ := idx7 t
  have y0 : (y 0).val < 1 := (y 0).isLt
  have y1 : (y 1).val < 1 := (y 1).isLt
  unfold iblk
  rw [View.read_apply]
  show V m c main_arg4 _ = m (c.tc.loc main_arg4) _
  unfold V
  congr 1
  funext a
  apply Fin.ext
  match a with
  | ⟨0, _⟩ => show win0_7.index t 0 * 1 + 1 * (y 0).val = t.val / 8; rw [h0]; omega
  | ⟨1, _⟩ => show win0_7.index t 1 * 1 + 1 * (y 1).val = t.val % 8; rw [h1]; omega
  | ⟨2, _⟩ => show win0_7.index t 2 * 128 + 1 * (y 2).val = (y 2).val; rw [h2]; omega
  | ⟨3, _⟩ => show win0_7.index t 3 * 256 + 1 * (y 3).val = (y 3).val; rw [h3]; omega

theorem knAt_eq (c : Dev nD) (t u : Fin cfg0.N) (h : t.val = u.val + 1) : knAt m c u = kAt m c t := by
  unfold knAt kAt
  rw [show (iblk m c 4 u : Qb F) = iblk m c 2 t from funext fun y => (iblk4_apply m c t u h y).trans (iblk2_apply m c t y).symm,
    show (iblk m c 5 u : Cb F) = iblk m c 3 t from funext fun y => (iblk5_apply m c t u h y).trans (iblk3_apply m c t y).symm]
theorem qnAt_eq (c : Dev nD) (t u : Fin cfg0.N) (h : t.val = u.val + 1) (i : Fin 2) : qnAt m c u i = qAt m c t i.val := by
  unfold qnAt qAt tqnB tqB
  congr 1
  funext y
  refine (iblk1_apply m c t u h _).trans (Eq.trans ?_ (iblk0_apply m c t _).symm)
  congr 1
  have hi : (Fin.ofNat 8 i.val).val = i.val := Nat.mod_eq_of_lt (by omega)
  funext a
  apply Fin.ext
  match a with
  | ⟨0, _⟩ => rfl
  | ⟨1, _⟩ => rfl
  | ⟨2, _⟩ => show 512 * i.val + 1 * (y 2).val = 512 * (Fin.ofNat 8 i.val).val + 1 * (y 2).val; rw [hi]
  | ⟨3, _⟩ => rfl

end Cert.KernelIdeal.Attn

end
-- ==== Proof.KernelIdeal.Run.lean ====
module

public import proofs.«01_k».proof.Proof.KernelIdeal.Data
public import Idealize.ShloMosaic.Lib.Pipeline.Value

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, Phi_pre, Phi_post,
    after_0, after_1, after_2, after_3, after_4, after_5, after_6, after_7, after_8]
  simp only [before_0, before_1, before_2, before_3, before_4, before_5, before_6, before_7]
  by_cases ht : t.val = 0
  · rw [scr_zero m c _ _ ht]
    unfold scrAny
    unfold owns
    simp only [show (st0_0 t).view.set = Finset.univ from (hstage0_0 _).set_eq_univ, show (st0_1 t).view.set = Finset.univ from (hstage0_1 _).set_eq_univ, show (st0_2 t).view.set = Finset.univ from (hstage0_2 _).set_eq_univ, show (st0_3 t).view.set = Finset.univ from (hstage0_3 _).set_eq_univ, show (st0_4 t).view.set = Finset.univ from (hstage0_4 _).set_eq_univ, show (st0_5 t).view.set = Finset.univ from (hstage0_5 _).set_eq_univ, show (st0_6 t).view.set = Finset.univ from (hstage0_6 _).set_eq_univ, show (st0_7 t).view.set = Finset.univ from (hstage0_7 _).set_eq_univ, show (st0_8 t).view.set = Finset.univ from (hstage0_8 _).set_eq_univ]
    iintro ⟨⟨HS, Hg⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩⟩
    have eK : kch (win0_2.stage (cfg0.slots t 2)) (win0_3.stage (cfg0.slots t 3)) f2 f3 = kAt m c t := kch_eq _ _ f2 f3 _ _ h2 h3
    have eKn : kch (win0_4.stage (cfg0.slots t 4)) (win0_5.stage (cfg0.slots t 5)) f4 f5 = knAt m c t := kch_eq _ _ f4 f5 _ _ h4 h5
    have eV : vch (win0_6.stage (cfg0.slots t 6)) (win0_7.stage (cfg0.slots t 7)) f6 f7 = vAt m c t := vch_eq _ _ f6 f7 _ _ h6 h7
    have eQ : tq (win0_0.stage (cfg0.slots t 0)) f0 = qAt m c t := tq_eq _ f0 _ h0
    have eQn : tqn (win0_1.stage (cfg0.slots t 1)) f1 = qnAt m c t := tqn_eq _ f1 _ h1
    icases HS with ⟨⟨%g0, S0⟩, ⟨%g1, S1⟩, ⟨%g2, S2⟩, ⟨%g3, S3⟩, ⟨%g4, S4⟩, ⟨%g5, S5⟩⟩
    iapply (body_first (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sM0 (Memref.isWhole_whole _) sM1 (Memref.isWhole_whole _) sM2 (Memref.isWhole_whole _) sM3 (Memref.isWhole_whole _) sM4 (Memref.isWhole_whole _) sM5 (Memref.isWhole_whole _) f0 f1 f2 f3 f4 f5 f6 f7 f8 g0 g1 g2 g3 g4 g5 ((first_iff t).2 ht) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, H7, ⟨%k8, H8, %p8⟩, ⟨%k0, S0, %p0⟩, S1, ⟨%k2, S2, %p2⟩, S3, S4, ⟨%k5, S5, %p5⟩⟩
    rw [eKn, eQn] at p0
    rw [eKn, eQn] at p5
    rw [eQn] at p2
    isplitl [S0 S1 S2 S3 S4 S5 Hg]
    · isplitr [Hg]; swap; · iexact Hg
      unfold scrAt
      isplitl [S0]
      · iexists _; isplitl [S0]; · iexact S0
        ipureintro; exact p0
      isplitl [S1]; · iexact S1
      isplitl [S2]
      · iexists _; isplitl [S2]; · iexact S2
        ipureintro; exact p2
      isplitl [S3]; · iexact S3
      isplitl [S4]; · iexact S4
      iexists _; isplitl [S5]; · iexact S5
      ipureintro; exact p5
    isplitl [Ho]; · iexact Ho
    isplitl [H0]
    · iexists f0; isplitr; · ipureintro; exact h0
      iexact H0
    isplitl [H1]
    · iexists f1; isplitr; · ipureintro; exact h1
      iexact H1
    isplitl [H2]
    · iexists f2; isplitr; · ipureintro; exact h2
      iexact H2
    isplitl [H3]
    · iexists f3; isplitr; · ipureintro; exact h3
      iexact H3
    isplitl [H4]
    · iexists f4; isplitr; · ipureintro; exact h4
      iexact H4
    isplitl [H5]
    · iexists f5; isplitr; · ipureintro; exact h5
      iexact H5
    isplitl [H6]
    · iexists f6; isplitr; · ipureintro; exact h6
      iexact H6
    isplitl [H7]
    · iexists f7; isplitr; · ipureintro; exact h7
      iexact H7
    iexists k8; isplitr; swap; · iexact H8
    ipureintro
    refine outB_of (win0_8.stage (cfg0.slots t 8)) k8 (ot (kAt m c t) (vAt m c t) (qAt m c t) (m0At m c t)) fun i => (p8 i).trans ?_
    rw [eK, eV, eQ]
    rw [show m0At m c t = maxN0 (sc (kAt m c t) (qAt m c t) 0) 16 from if_pos ht]
  · have hp : t.val = (⟨t.val - 1, by omega⟩ : Fin cfg0.N).val + 1 := by show t.val = t.val - 1 + 1; omega
    rw [scr_pos m c _ _ ht]
    unfold scrAt
    unfold owns
    simp only [show (st0_0 t).view.set = Finset.univ from (hstage0_0 _).set_eq_univ, show (st0_1 t).view.set = Finset.univ from (hstage0_1 _).set_eq_univ, show (st0_2 t).view.set = Finset.univ from (hstage0_2 _).set_eq_univ, show (st0_3 t).view.set = Finset.univ from (hstage0_3 _).set_eq_univ, show (st0_4 t).view.set = Finset.univ from (hstage0_4 _).set_eq_univ, show (st0_5 t).view.set = Finset.univ from (hstage0_5 _).set_eq_univ, show (st0_6 t).view.set = Finset.univ from (hstage0_6 _).set_eq_univ, show (st0_7 t).view.set = Finset.univ from (hstage0_7 _).set_eq_univ, show (st0_8 t).view.set = Finset.univ from (hstage0_8 _).set_eq_univ]
    iintro ⟨⟨HS, Hg⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩⟩
    have eK : kch (win0_2.stage (cfg0.slots t 2)) (win0_3.stage (cfg0.slots t 3)) f2 f3 = kAt m c t := kch_eq _ _ f2 f3 _ _ h2 h3
    have eKn : kch (win0_4.stage (cfg0.slots t 4)) (win0_5.stage (cfg0.slots t 5)) f4 f5 = knAt m c t := kch_eq _ _ f4 f5 _ _ h4 h5
    have eV : vch (win0_6.stage (cfg0.slots t 6)) (win0_7.stage (cfg0.slots t 7)) f6 f7 = vAt m c t := vch_eq _ _ f6 f7 _ _ h6 h7
    have eQ : tq (win0_0.stage (cfg0.slots t 0)) f0 = qAt m c t := tq_eq _ f0 _ h0
    have eQn : tqn (win0_1.stage (cfg0.slots t 1)) f1 = qnAt m c t := tqn_eq _ f1 _ h1
    icases HS with ⟨⟨%g0, S0, %e0⟩, ⟨%g1, S1⟩, ⟨%g2, S2, %e2⟩, ⟨%g3, S3⟩, ⟨%g4, S4⟩, ⟨%g5, S5, %e5⟩⟩
    rw [knAt_eq m c t _ hp, qnAt_eq m c t _ hp] at e0 e5
    rw [qnAt_eq m c t _ hp] at e2
    iapply (body_next (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sM0 (Memref.isWhole_whole _) sM1 (Memref.isWhole_whole _) sM2 (Memref.isWhole_whole _) sM3 (Memref.isWhole_whole _) sM4 (Memref.isWhole_whole _) sM5 (Memref.isWhole_whole _) f0 f1 f2 f3 f4 f5 f6 f7 f8 g0 g1 g2 g3 g4 g5 (fun h => ht ((first_iff t).1 h))
      (fun j => (e0 j).trans (by rw [eK, eQ]; rfl)) (e2.trans (by rw [eQ]; rfl)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, H7, ⟨%k8, H8, %p8⟩, ⟨%k0, S0, %p0⟩, S1, ⟨%k2, S2, %p2⟩, S3, S4, ⟨%k5, S5, %p5⟩⟩
    rw [eKn, eQn] at p0
    rw [eKn, eQn] at p5
    rw [eQn] at p2
    isplitl [S0 S1 S2 S3 S4 S5 Hg]
    · isplitr [Hg]; swap; · iexact Hg
      isplitl [S0]
      · iexists _; isplitl [S0]; · iexact S0
        ipureintro; exact p0
      isplitl [S1]; · iexact S1
      isplitl [S2]
      · iexists _; isplitl [S2]; · iexact S2
        ipureintro; exact p2
      isplitl [S3]; · iexact S3
      isplitl [S4]; · iexact S4
      iexists _; isplitl [S5]; · iexact S5
      ipureintro; exact p5
    isplitl [Ho]; · iexact Ho
    isplitl [H0]
    · iexists f0; isplitr; · ipureintro; exact h0
      iexact H0
    isplitl [H1]
    · iexists f1; isplitr; · ipureintro; exact h1
      iexact H1
    isplitl [H2]
    · iexists f2; isplitr; · ipureintro; exact h2
      iexact H2
    isplitl [H3]
    · iexists f3; isplitr; · ipureintro; exact h3
      iexact H3
    isplitl [H4]
    · iexists f4; isplitr; · ipureintro; exact h4
      iexact H4
    isplitl [H5]
    · iexists f5; isplitr; · ipureintro; exact h5
      iexact H5
    isplitl [H6]
    · iexists f6; isplitr; · ipureintro; exact h6
      iexact H6
    isplitl [H7]
    · iexists f7; isplitr; · ipureintro; exact h7
      iexact H7
    iexists k8; isplitr; swap; · iexact H8
    ipureintro
    refine outB_of (win0_8.stage (cfg0.slots t 8)) k8 (ot (kAt m c t) (vAt m c t) (qAt m c t) (m0At m c t)) fun i => (p8 i).trans ?_
    rw [eK, eV, eQ]
    rw [show m0At m c t = maxN (sc (kAt m c t) (qAt m c t) 0) 17 from if_neg ht]
    exact congrArg (fun z => ot (kAt m c t) (vAt m c t) (qAt m c t) z i.val) e5

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun c w _ => rfl) (howed := fun _ _ => rfl) (V := V m)
    (hmain := hmain m Variants.none) (hA := A_eq m)
    (hin := fun c => by unfold Pipeline.ΦA; rw [scopedRest_scr]; exact .rfl)
    (hout := fun c => by
      unfold Pipeline.ΦA
      rw [scopedRest_scr]
      show iprop(scr m c _ _ ∗ _) ⊢ _
      iintro ⟨HS, Hg⟩
      isplitr [Hg]; swap; · iexact Hg
      iapply (scr_any m c _ _)
      iexact HS)
    (hQ' := fun _ h => h)

/-! ## The result's array -/

/-- The grid point that computes an entry of the result, and the entry of its block. -/
def ptOf (x : S4x4096x1024.Idx) : Fin cfg0.N := ⟨8 * (x 0).val + (x 2).val / 128, by
  have h0 : (x 0).val < 4 := (x 0).isLt
  have h2 : (x 2).val < 1024 := (x 2).isLt
  have hN : cfg0.N = 32 := N_0
  omega⟩
def inOf (x : S4x4096x1024.Idx) : S1x4096x128.Idx := fun
  | ⟨0, _⟩ => ⟨0, Nat.zero_lt_one⟩
  | ⟨1, _⟩ => ⟨(x 1).val, (x 1).isLt⟩
  | ⟨2, _⟩ => ⟨(x 2).val % 128, Nat.mod_lt _ (by decide)⟩
def attn (c : Dev nD) : Buf (Elt F) ((c : Thread nD τ).loc main_v0) := fun x => outAt m c (ptOf x) (inOf x)

theorem flushed_eq (c : Dev nD) (t : Fin cfg0.N) : (dats m 0 c).flushed 8 t = (win0_8.blk t).view.read (Elt F) (attn m c) := by
  show (cfg0.win 8).cut (grid0.coords t) ((dats m 0 c).after 8 t) = _
  rw [after_8]
  obtain ⟨h0, h1, h2⟩ := idx8 t
  have ht := lt32 t
  funext y
  have y0 : (y 0).val < 1 := (y 0).isLt
  have y1 : (y 1).val < 4096 := (y 1).isLt
  have y2 : (y 2).val < 128 := (y 2).isLt
  have key : ∀ x : S4x4096x1024.Idx, (x 0).val = t.val / 8 → (x 1).val = (y 1).val → (x 2).val = 128 * (t.val % 8) + (y 2).val →
      outAt m c t y = attn m c x := by
    intro x e0 e1 e2
    unfold attn
    have ep : ptOf x = t := Fin.ext (by show 8 * (x 0).val + (x 2).val / 128 = t.val; omega)
    rw [ep]
    congr 1
    funext a
    apply Fin.ext
    match a with
    | ⟨0, _⟩ => show (y 0).val = 0; omega
    | ⟨1, _⟩ => show (y 1).val = (x 1).val; omega
    | ⟨2, _⟩ => show (y 2).val = (x 2).val % 128; omega
  rw [View.read_apply]
  refine key _ ?_ ?_ ?_
  · show win0_8.index t 0 * 1 + 1 * (y 0).val = _
    rw [h0]; omega
  · show win0_8.index t 1 * 4096 + 1 * (y 1).val = _
    rw [h1]; omega
  · show win0_8.index t 2 * 128 + 1 * (y 2).val = _
    rw [h2]; omega

theorem mem_blk (t : Fin cfg0.N) (x : S4x4096x1024.Idx) (h0 : (x 0).val = t.val / 8) (h2 : (x 2).val / 128 = t.val % 8) :
    x ∈ ((cfg0.win 8).blk t).view.set := by
  show x ∈ ((View.whole main_v0).slice (win0_8.rect t)).set
  rw [View.set_slice_whole, Rect.mem_set_unit]
  obtain ⟨i0, i1, i2⟩ := idx8 t
  have x1 : (x 1).val < 4096 := (x 1).isLt
  intro a
  match a with
  | ⟨0, _⟩ => show win0_8.index t 0 * 1 ≤ (x 0).val ∧ (x 0).val < win0_8.index t 0 * 1 + 1; rw [i0]; omega
  | ⟨1, _⟩ => show win0_8.index t 1 * 4096 ≤ (x 1).val ∧ (x 1).val < win0_8.index t 1 * 4096 + 4096; rw [i1]; omega
  | ⟨2, _⟩ => show win0_8.index t 2 * 128 ≤ (x 2).val ∧ (x 2).val < win0_8.index t 2 * 128 + 128; rw [i2]; omega

theorem cover (x : S4x4096x1024.Idx) : ∃ t : Fin cfg0.N, (cfg0.win 8).flush t = true ∧ x ∈ ((cfg0.win 8).blk t).view.set := by
  have x2 : (x 2).val < 1024 := (x 2).isLt
  refine ⟨ptOf x, flush0_8 _, mem_blk _ x ?_ ?_⟩
  · show (x 0).val = (8 * (x 0).val + (x 2).val / 128) / 8; omega
  · show (x 2).val / 128 = (8 * (x 0).val + (x 2).val / 128) % 8; omega

theorem final_o (c : Dev nD) : (dats m 0 c).arrAt 8 cfg0.N = attn m c :=
  (dats m 0 c).arrAt_eq_of_cover 8 (attn m c) (fun t _ => flushed_eq m c t) cover

/-- Every execution ends with the result at `attn`, the arguments unchanged and every counter at zero. -/
theorem run : θ_run defs (onTc (τ := τ) (main (F := F))) ⟨m, fun _ => 0, ρ⟩ (fun r => (∀ c : Dev nD,
      r.2.mem ((c.tc : Thread nD τ).loc main_v0) = attn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).1 8).trans (final_o m c),
      ((h.1 c).1 1).trans ((dats m 0 c).arrAt_in 1 rfl _),
      ((h.1 c).1 4).trans ((dats m 0 c).arrAt_in 4 rfl _),
      ((h.1 c).1 5).trans ((dats m 0 c).arrAt_in 5 rfl _),
      ((h.1 c).1 6).trans ((dats m 0 c).arrAt_in 6 rfl _),
      ((h.1 c).1 7).trans ((dats m 0 c).arrAt_in 7 rfl _)⟩, h.2⟩)
    (run_main m ρ)

end Cert.KernelIdeal.Attn

end
-- ==== Proof.ReferenceIdeal.Run.lean ====
module

public import proofs.«01_k».proof.Proof.Gen.ReferenceIdeal
public import Idealize.ShloMosaic.Lib.StableHlo.Run
public import Idealize.ShloMosaic.Lib.Quiescent

@[expose] public section

set_option maxRecDepth 16384

noncomputable section

namespace Cert.ReferenceIdeal.Attn

open Cert.ReferenceIdeal Cert.ReferenceIdeal.Gen
open Idealize.ShloMosaic Idealize.ShloMosaic.TcCoe Idealize.ShloMosaic.StableHlo Idealize.SL.Sem

variable {F : FTy → Type} [FloatOps F]

/-! ## The reference's value, stage by stage -/

section
variable (q k : FVec F S4x8x4096x256 .bf16) (kc : FVec F S4x8x256x256 .bf16) (v : FVec F S4x8x128x4096 .bf16) (vc : FVec F S4x8x128x256 .bf16)

/-- All keys, the context's first, -/
def keys : FVec F S4x8x4352x256 .f32 :=
  concatenate S4x8x4352x256 2 [⟨S4x8x256x256, extf .f32 kc bitsLt_bf16_f32⟩, ⟨S4x8x4096x256, extf .f32 k bitsLt_bf16_f32⟩] concatenates_S4x8x256x256_S4x8x4096x256_S4x8x4352x256_d2
/-- and all values. -/
def vals : FVec F S4x8x128x4352 .f32 :=
  concatenate S4x8x128x4352 3 [⟨S4x8x128x256, extf .f32 vc bitsLt_bf16_f32⟩, ⟨S4x8x128x4096, extf .f32 v bitsLt_bf16_f32⟩] concatenates_S4x8x128x256_S4x8x128x4096_S4x8x128x4352_d3
/-- The scores, in units of the natural logarithm, -/
def scores : FVec F S4x8x4096x4352 .f32 :=
  mulf (Host.dotGeneral dot_S4x8x4096x256_S4x8x4352x256_S4x8x4096x4352_3_3_2_2_01_01 none (extf .f32 q bitsLt_bf16_f32) (keys k kc))
    (broadcastInDim S4x8x4096x4352 ![] bcast_S_S4x8x4096x4352 (Host.log (constant S_ .f32 0x40000000#32)))
/-- each query's largest, -/
def top (s : FVec F S4x8x4096x4352 .f32) : FVec F S4x8x4096 .f32 :=
  maximumf (broadcastInDim S4x8x4096 ![] bcast_S_S4x8x4096 (constant S_ .f32 0xFF800000#32))
    (Host.reduce FloatOps.maximumf s (constant S_ .f32 0xFF800000#32) reducesTo_S4x8x4096x4352_S4x8x4096_d3 h_S_)
/-- a value for each query repeated for every key, -/
def rep (x : FVec F S4x8x4096 .f32) : FVec F S4x8x4096x4352 .f32 :=
  broadcastInDim S4x8x4096x4352 ![0, 1, 2, 3] bcast_S4x8x4096x1_S4x8x4096x4352_0_1_2_3 (broadcastInDim S4x8x4096x1 ![0, 1, 2] bcast_S4x8x4096_S4x8x4096x1_0_1_2 x)
/-- the exponentials, -/
def exps (s : FVec F S4x8x4096x4352 .f32) : FVec F S4x8x4096x4352 .f32 := Host.exp (subf s (rep (top s)))
/-- and the weights. -/
def weights (p : FVec F S4x8x4096x4352 .f32) : FVec F S4x8x4096x4352 .f32 :=
  Host.divf p (rep (Host.reduceAdd p (constant S_ .f32 0x00000000#32) reducesTo_S4x8x4096x4352_S4x8x4096_d3 h_S_))
/-- The weighted values, -/
def mean (w : FVec F S4x8x4096x4352 .f32) : FVec F S4x8x128x4096 .f32 :=
  Host.dotGeneral dot_S4x8x128x4352_S4x8x4096x4352_S4x8x128x4096_3_3_2_2_01_01 none (vals v vc) w
/-- and the result. -/
def out : FVec F S4x4096x1024 .bf16 :=
  truncf .bf16 (shapeCast S4x4096x1024 (transpose S4x4096x8x128 [0, 3, 1, 2] (mean v vc (weights (exps (scores q k kc)))) transposes_S4x8x128x4096_S4x4096x8x128_0_3_1_2)
    shapeCasts_S4x4096x8x128_S4x4096x1024) bitsLt_bf16_f32

end

/-! ## Its run -/

/-- The program's operations, in order. -/
abbrev ops : List (HloOp τ sig (Elt F)) :=
  [ unary main_arg0 main_v0 (extf .f32 · bitsLt_bf16_f32),
    unary main_arg1 main_v1 (extf .f32 · bitsLt_bf16_f32),
    unary main_arg2 main_v2 (extf .f32 · bitsLt_bf16_f32),
    unary main_arg3 main_v3 (extf .f32 · bitsLt_bf16_f32),
    unary main_arg4 main_v4 (extf .f32 · bitsLt_bf16_f32),
    binary main_v2 main_v1 main_v5 (fun a b => concatenate S4x8x4352x256 2 [⟨S4x8x256x256, a⟩, ⟨S4x8x4096x256, b⟩] concatenates_S4x8x256x256_S4x8x4096x256_S4x8x4352x256_d2),
    binary main_v4 main_v3 main_v6 (fun a b => concatenate S4x8x128x4352 3 [⟨S4x8x128x256, a⟩, ⟨S4x8x128x4096, b⟩] concatenates_S4x8x128x256_S4x8x128x4096_S4x8x128x4352_d3),
    binary main_v0 main_v5 main_v7 (fun l r => Host.dotGeneral dot_S4x8x4096x256_S4x8x4352x256_S4x8x4096x4352_3_3_2_2_01_01 none l r),
    nullary main_cst (constant S_ .f32 0x40000000#32),
    unary main_cst main_v8 Host.log,
    unary main_v8 main_v9 (broadcastInDim S4x8x4096x4352 ![] bcast_S_S4x8x4096x4352),
    binary main_v7 main_v9 main_v10 mulf,
    nullary main_cst_0 (constant S_ .f32 0xFF800000#32),
    binary main_v10 main_cst_0 main_v11 (fun x v => Host.reduce FloatOps.maximumf x v reducesTo_S4x8x4096x4352_S4x8x4096_d3 h_S_),
    nullary main_cst_1 (constant S_ .f32 0xFF800000#32),
    unary main_cst_1 main_v12 (broadcastInDim S4x8x4096 ![] bcast_S_S4x8x4096),
    binary main_v12 main_v11 main_v13 maximumf,
    unary main_v13 main_v14 (broadcastInDim S4x8x4096x1 ![0, 1, 2] bcast_S4x8x4096_S4x8x4096x1_0_1_2),
    unary main_v14 main_v15 (broadcastInDim S4x8x4096x4352 ![0, 1, 2, 3] bcast_S4x8x4096x1_S4x8x4096x4352_0_1_2_3),
    binary main_v10 main_v15 main_v16 subf,
    unary main_v16 main_v17 Host.exp,
    nullary main_cst_2 (constant S_ .f32 0x00000000#32),
    binary main_v17 main_cst_2 main_v18 (fun x v => Host.reduceAdd x v reducesTo_S4x8x4096x4352_S4x8x4096_d3 h_S_),
    unary main_v18 main_v19 (broadcastInDim S4x8x4096x1 ![0, 1, 2] bcast_S4x8x4096_S4x8x4096x1_0_1_2),
    unary main_v19 main_v20 (broadcastInDim S4x8x4096x4352 ![0, 1, 2, 3] bcast_S4x8x4096x1_S4x8x4096x4352_0_1_2_3),
    binary main_v17 main_v20 main_v21 Host.divf,
    binary main_v6 main_v21 main_v22 (fun l r => Host.dotGeneral dot_S4x8x128x4352_S4x8x4096x4352_S4x8x128x4096_3_3_2_2_01_01 none l r),
    unary main_v22 main_v23 (transpose S4x4096x8x128 [0, 3, 1, 2] · transposes_S4x8x128x4096_S4x4096x8x128_0_3_1_2),
    StableHlo.reshape main_v23 main_v24 (rfl : (.f32 : EltTy) = .f32) shapeCasts_S4x4096x8x128_S4x4096x1024,
    unary main_v24 main_v25 (truncf .bf16 · bitsLt_bf16_f32) ]

theorem main_eq (c : Dev nD) : main (F := F) c = seq ops := rfl

theorem out_eq (V : Valuation τ sig (Elt F)) :
    after ops V (main_v25 : DevRef τ sig) = out (V (main_arg0 : DevRef τ sig)) (V (main_arg1 : DevRef τ sig)) (V (main_arg2 : DevRef τ sig)) (V (main_arg3 : DevRef τ sig)) (V (main_arg4 : DevRef τ sig)) := by
  after_results
  rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results
theorem arg4_eq (V : Valuation τ sig (Elt F)) : after ops V (main_arg4 : DevRef τ sig) = V (main_arg4 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., unary_bufs_sub .., unary_bufs_sub .., binary_bufs_sub .., binary_bufs_sub .., binary_bufs_sub .., nullary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., unary_bufs_sub ..⟩

/-- The reference ends with its value in the result, its arguments unchanged and its counters at zero. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v25) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h c main_v25).trans (out_eq _), (h c main_arg0).trans (arg0_eq _), (h c main_arg1).trans (arg1_eq _),
      (h c main_arg2).trans (arg2_eq _), (h c main_arg3).trans (arg3_eq _), (h c main_arg4).trans (arg4_eq _)⟩, sem_eq_zero_of_no_sems (by decide) _⟩)
    (run_seq scopedRefs_eq scopedSems_eq defs main (fun _ => ops) main_eq (fun _ => ops_sub) m ρ)

end Cert.ReferenceIdeal.Attn

end
-- ==== Proof.Value.Softmax.lean ====
module

public import Idealize.ShloMosaic.Lib.Pointwise

@[expose] public section

noncomputable section

namespace Cert.Softmax

open Idealize.ShloMosaic

/-! ## A softmax in base two against one in base e, over the extended reals

`σ k` is the score of key `k`, a real number; `w k` is an entry of its value, anything. -/

theorem sup_coe {ι : Type} [Fintype ι] [Nonempty ι] (σ : ι → ℝ) :
    ∃ μ : ι, (∀ k, σ k ≤ σ μ) ∧ Finset.univ.sup (fun k => (σ k : EReal)) = (σ μ : EReal) := by
  obtain ⟨μ, hμ⟩ := Finite.exists_max σ
  exact ⟨μ, hμ, le_antisymm (Finset.sup_le fun k _ => EReal.coe_le_coe_iff.mpr (hμ k))
    (Finset.le_sup (f := fun k => (σ k : EReal)) (Finset.mem_univ μ))⟩

/-- A factor that is neither negative nor infinite goes into a sum. -/
theorem sum_mul_of {ι : Type} [Fintype ι] (f : ι → EReal) (r : ℝ) (hr : 0 ≤ r) :
    (∑ k, f k) * (r : EReal) = ∑ k, f k * (r : EReal) := by
  classical
  refine Finset.induction_on (motive := fun s => (∑ k ∈ s, f k) * (r : EReal) = ∑ k ∈ s, f k * (r : EReal)) Finset.univ ?_ ?_
  · simp
  · intro a s ha ih
    rw [Finset.sum_insert ha, Finset.sum_insert ha,
      EReal.right_distrib_of_nonneg_of_ne_top (EReal.coe_nonneg.mpr hr) (EReal.coe_ne_top r), ih]

theorem coe_sum {ι : Type} [Fintype ι] (f : ι → ℝ) : ∑ k, (f k : EReal) = ((∑ k, f k : ℝ) : EReal) := by
  classical
  refine Finset.induction_on (motive := fun s => ∑ k ∈ s, (f k : EReal) = ((∑ k ∈ s, f k : ℝ) : EReal)) Finset.univ ?_ ?_
  · simp
  · intro a s ha ih
    rw [Finset.sum_insert ha, Finset.sum_insert ha, ih, EReal.coe_add]

/-- The quotient of the sums is the sum of the quotients, and `2 ^ x` is `e ^ (x log 2)`: the kernel's weighted mean is the
    reference's. -/
theorem mean_eq {ι : Type} [Fintype ι] [Nonempty ι] (σ : ι → ℝ) (w : ι → EReal) :
    Ideal.div (∑ k, w k * Ideal.exp2 ((σ k : EReal) - Finset.univ.sup fun k => (σ k : EReal)))
        (∑ k, Ideal.exp2 ((σ k : EReal) - Finset.univ.sup fun k => (σ k : EReal)))
      = ∑ k, w k * Ideal.div
          (Ideal.exp ((σ k : EReal) * (Real.log 2 : ℝ) - Finset.univ.sup fun k => (σ k : EReal) * (Real.log 2 : ℝ)))
          (∑ k, Ideal.exp ((σ k : EReal) * (Real.log 2 : ℝ) - Finset.univ.sup fun k => (σ k : EReal) * (Real.log 2 : ℝ))) := by
  have h2 : (0 : ℝ) < Real.log 2 := Real.log_pos (by norm_num)
  obtain ⟨μ, hμ, e1⟩ := sup_coe σ
  have e2 : (Finset.univ.sup fun k => (σ k : EReal) * (Real.log 2 : ℝ)) = ((σ μ * Real.log 2 : ℝ) : EReal) := by
    refine le_antisymm (Finset.sup_le fun k _ => ?_) ?_
    · show (σ k : EReal) * (Real.log 2 : ℝ) ≤ _
      rw [← EReal.coe_mul]
      exact EReal.coe_le_coe_iff.mpr (mul_le_mul_of_nonneg_right (hμ k) h2.le)
    · rw [EReal.coe_mul]
      exact Finset.le_sup (f := fun k => (σ k : EReal) * (Real.log 2 : ℝ)) (Finset.mem_univ μ)
  have p1 : ∀ k, Ideal.exp2 ((σ k : EReal) - Finset.univ.sup fun k => (σ k : EReal)) = ((2 : ℝ) ^ (σ k - σ μ) : ℝ) := fun k => by
    rw [e1, ← EReal.coe_sub, Ideal.exp2_coe]
    rfl
  have p2 : ∀ k, Ideal.exp ((σ k : EReal) * (Real.log 2 : ℝ) - Finset.univ.sup fun k => (σ k : EReal) * (Real.log 2 : ℝ))
      = ((2 : ℝ) ^ (σ k - σ μ) : ℝ) := fun k => by
    rw [e2, ← EReal.coe_mul, ← EReal.coe_sub, Ideal.exp_coe, Real.rpow_def_of_pos (by norm_num)]
    congr 2
    ring
  simp only [p1, p2]
  have hs : ∑ k, (((2 : ℝ) ^ (σ k - σ μ) : ℝ) : EReal) = ((∑ k, (2 : ℝ) ^ (σ k - σ μ) : ℝ) : EReal) := coe_sum _
  have hp : 0 < ∑ k, (2 : ℝ) ^ (σ k - σ μ) := Finset.sum_pos (fun k _ => Real.rpow_pos_of_pos (by norm_num) _) Finset.univ_nonempty
  rw [hs, Ideal.div_coe hp.ne', sum_mul_of _ _ (one_div_nonneg.mpr hp.le)]
  refine Finset.sum_congr rfl fun k _ => ?_
  rw [Ideal.div_coe hp.ne', mul_assoc]

/-! ## Blocks of keys -/

/-- Where the reference has key `x` of the kernel's chunk `j`: chunk 16, the context, comes first. -/
def pos (j : Fin 17) (x : Fin 256) : Fin 4352 := ⟨if j.val = 16 then x.val else 256 + 256 * j.val + x.val, by
  have := j.isLt
  have := x.isLt
  split <;> omega⟩

theorem pos_bijective : Function.Bijective (fun a : Fin 17 × Fin 256 => pos a.1 a.2) := by
  rw [Fintype.bijective_iff_injective_and_card]
  refine ⟨?_, by simp⟩
  rintro ⟨j, x⟩ ⟨j', x'⟩ h
  have h' : (if j.val = 16 then x.val else 256 + 256 * j.val + x.val) = (if j'.val = 16 then x'.val else 256 + 256 * j'.val + x'.val) :=
    congrArg Fin.val h
  have := j.isLt
  have := x.isLt
  have := j'.isLt
  have := x'.isLt
  have e : j.val = j'.val ∧ x.val = x'.val := by
    split at h' <;> split at h' <;> omega
  exact Prod.ext (Fin.ext e.1) (Fin.ext e.2)

/-- Key `8 g + u` of a chunk: row `g` of sublane `u`. -/
def sub (g : Fin 32) (u : Fin 8) : Fin 256 := ⟨g.val * 8 + u.val, by omega⟩

theorem sub_bijective : Function.Bijective (fun a : Fin 32 × Fin 8 => sub a.1 a.2) := by
  rw [Fintype.bijective_iff_injective_and_card]
  refine ⟨?_, by simp⟩
  rintro ⟨g, u⟩ ⟨g', u'⟩ h
  have h' : g.val * 8 + u.val = g'.val * 8 + u'.val := congrArg Fin.val h
  have := u.isLt
  have := u'.isLt
  exact Prod.ext (Fin.ext (by show g.val = g'.val; omega)) (Fin.ext (by show u.val = u'.val; omega))

theorem sum_pos (f : Fin 4352 → EReal) : ∑ j, ∑ x, f (pos j x) = ∑ k, f k := by
  rw [← Fintype.sum_prod_type']
  exact Function.Bijective.sum_comp pos_bijective f

theorem sum_sub (f : Fin 256 → EReal) : ∑ u, ∑ g, f (sub g u) = ∑ x, f x := by
  rw [Finset.sum_comm, ← Fintype.sum_prod_type']
  exact Function.Bijective.sum_comp sub_bijective f

theorem forall_pos {p : Fin 4352 → Prop} : (∀ j u g, p (pos j (sub g u))) ↔ ∀ k, p k := by
  refine ⟨fun h k => ?_, fun h j u g => h _⟩
  obtain ⟨⟨j, x⟩, rfl⟩ := pos_bijective.2 k
  obtain ⟨⟨g, u⟩, rfl⟩ := sub_bijective.2 x
  exact h j u g

end Cert.Softmax

end
-- ==== Proof.Value.Tiles.lean ====
module

public import proofs.«01_k».proof.Proof.KernelIdeal.Data
public import proofs.«01_k».proof.Proof.Value.Softmax
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe
open Idealize.SL.Sem
open Cert.Softmax (sub)

/-! ## The tiles' values, entry by entry, over the extended reals -/

theorem ofBits_negInf : Ideal.ofBits .f32 0xFF800000#32 = ⊥ := by
  simp [Ideal.ofBits, Ideal.ieee]

theorem trT_at (x : FVec Ideal S1x1x512x256 .bf16) (e : Fin 256) (r : Fin 512) : trT (F := Ideal) x (ix2 e r) = x (ix4 0 0 r e) := by
  pointwise [trT]

theorem scoreC_at (k : FVec Ideal S1x1x256x256 .bf16) (q : FVec Ideal S256x512 .bf16) (x : Fin 256) (r : Fin 512) :
    scoreC (F := Ideal) k q (ix2 x r) = ∑ e : Fin 256, k (ix4 0 0 x e) * q (ix2 e r) := by
  pointwise [scoreC]

theorem fold_max {ι : Type} [Fintype ι] (f : ι → EReal) : Finset.fold max (Ideal.ofBits .f32 0xFF800000#32) f Finset.univ = Finset.univ.sup f := by
  rw [ofBits_negInf]
  rfl

theorem gmaxC_at (s : FVec Ideal S256x512 .f32) (u : Fin 8) (r : Fin 512) :
    gmaxC (F := Ideal) s (ix2 u r) = Finset.univ.sup fun g : Fin 32 => s (ix2 (sub g u) r) := by
  pointwise [gmaxC]
  exact fold_max _

theorem gsumC_at (s : FVec Ideal S256x512 .f32) (u : Fin 8) (r : Fin 512) :
    gsumC (F := Ideal) s (ix2 u r) = ∑ g : Fin 32, s (ix2 (sub g u) r) := by
  pointwise [gsumC]
  rfl

theorem mrow_at (s : FVec Ideal S8x512 .f32) (z : Fin 1) (r : Fin 512) :
    mrow (F := Ideal) s (ix2 z r) = Finset.univ.sup fun u : Fin 8 => s (ix2 u r) := by
  pointwise [mrow]
  exact fold_max _

theorem expC_at (M : FVec Ideal S8x512 .f32) (s : FVec Ideal S256x512 .f32) (x : Fin 256) (r : Fin 512) :
    expC (F := Ideal) M s (ix2 x r) = Ideal.exp2 (s (ix2 x r) - Finset.univ.sup fun u : Fin 8 => M (ix2 u r)) := by
  pointwise [expC]
  rw [mrow_at]
  rfl

theorem pvC_at (v : FVec Ideal S1x1x128x256 .bf16) (p : FVec Ideal S256x512 .f32) (d : Fin 128) (r : Fin 512) :
    pvC (F := Ideal) v p (ix2 d r) = ∑ x : Fin 256, v (ix4 0 0 d x) * p (ix2 x r) := by
  pointwise [pvC]

theorem ix3_eq (r : Fin 512) (d : Fin 128) : ix3 r d = Idealize.ShloMosaic.ix3 0 r d := by
  funext a
  match a with
  | ⟨0, _⟩ => rfl
  | ⟨1, _⟩ => rfl
  | ⟨2, _⟩ => rfl

theorem finT_at (l : FVec Ideal S8x512 .f32) (a : FVec Ideal S128x512 .f32) (r : Fin 512) (d : Fin 128) :
    finT (F := Ideal) l a (ix3 r d) = Ideal.div (a (ix2 d r)) (∑ u : Fin 8, l (ix2 u r)) := by
  rw [ix3_eq]
  pointwise [finT]

/-! ## The running maximum and the running sums -/

section
variable (s : Fin 17 → FVec Ideal S256x512 .f32) (v : Fin 17 → FVec Ideal S1x1x128x256 .bf16) (M : FVec Ideal S8x512 .f32) (r : Fin 512)

theorem maxN_le (n : ℕ) (hn : n ≤ 17) (u : Fin 8) (b : EReal) :
    maxN (F := Ideal) s n (ix2 u r) ≤ b ↔ ∀ j : Fin 17, j.val < n → ∀ g, s j (ix2 (sub g u) r) ≤ b := by
  induction n with
  | zero =>
    have e : maxN (F := Ideal) s 0 (ix2 u r) = ⊥ := ofBits_negInf
    rw [e]
    exact ⟨fun _ j h => absurd h (Nat.not_lt_zero _), fun _ => bot_le⟩
  | succ n ih =>
    have e : maxN (F := Ideal) s (n + 1) (ix2 u r) = max (maxN (F := Ideal) s n (ix2 u r)) (gmaxC (F := Ideal) (s (Fin.ofNat 17 n)) (ix2 u r)) := rfl
    have hj : (Fin.ofNat 17 n).val = n := Nat.mod_eq_of_lt (by omega)
    rw [e, max_le_iff, ih (by omega), gmaxC_at, Finset.sup_le_iff]
    constructor
    · rintro ⟨h1, h2⟩ j hjn g
      by_cases h : j.val < n
      · exact h1 j h g
      · obtain rfl : j = Fin.ofNat 17 n := Fin.ext (by rw [hj]; omega)
        exact h2 g (Finset.mem_univ g)
    · exact fun h => ⟨fun j hjn g => h j (by omega) g, fun g _ => h _ (by rw [hj]; omega) g⟩

theorem maxN0_le (n : ℕ) (hn : n ≤ 16) (u : Fin 8) (b : EReal) :
    maxN0 (F := Ideal) s n (ix2 u r) ≤ b ↔ ∀ j : Fin 17, j.val < n + 1 → ∀ g, s j (ix2 (sub g u) r) ≤ b := by
  induction n with
  | zero =>
    have e : maxN0 (F := Ideal) s 0 (ix2 u r) = gmaxC (F := Ideal) (s 0) (ix2 u r) := rfl
    rw [e, gmaxC_at, Finset.sup_le_iff]
    constructor
    · intro h j hj g
      obtain rfl : j = 0 := Fin.ext (by show j.val = 0; omega)
      exact h g (Finset.mem_univ g)
    · exact fun h g _ => h 0 (by show 0 < 1; omega) g
  | succ n ih =>
    have e : maxN0 (F := Ideal) s (n + 1) (ix2 u r) = max (maxN0 (F := Ideal) s n (ix2 u r)) (gmaxC (F := Ideal) (s (Fin.ofNat 17 (n + 1))) (ix2 u r)) := rfl
    have hj : (Fin.ofNat 17 (n + 1)).val = n + 1 := Nat.mod_eq_of_lt (by omega)
    rw [e, max_le_iff, ih (by omega), gmaxC_at, Finset.sup_le_iff]
    constructor
    · rintro ⟨h1, h2⟩ j hjn g
      by_cases h : j.val < n + 1
      · exact h1 j h g
      · obtain rfl : j = Fin.ofNat 17 (n + 1) := Fin.ext (by rw [hj]; omega)
        exact h2 g (Finset.mem_univ g)
    · exact fun h => ⟨fun j hjn g => h j (by omega) g, fun g _ => h _ (by rw [hj]; omega) g⟩

/-- Started from the first chunk or from minus infinity, the maximum is the same. -/
theorem maxN0_eq : maxN0 (F := Ideal) s 16 = maxN (F := Ideal) s 17 := by
  funext y
  obtain ⟨u, r', rfl⟩ : ∃ (u : Fin 8) (r' : Fin 512), y = ix2 u r' := ⟨y 0, y 1, eq_ix2 y⟩
  exact eq_of_forall_ge_iff fun b => (maxN0_le s r' 16 le_rfl u b).trans (maxN_le s r' 17 le_rfl u b).symm

theorem mrow_maxN (f : Fin 4352 → EReal) (hf : ∀ j x, s j (ix2 x r) = f (Cert.Softmax.pos j x)) :
    (Finset.univ.sup fun u : Fin 8 => maxN (F := Ideal) s 17 (ix2 u r)) = Finset.univ.sup f := by
  refine eq_of_forall_ge_iff fun b => ?_
  rw [Finset.sup_le_iff, Finset.sup_le_iff]
  simp only [maxN_le s r 17 le_rfl, hf, Finset.mem_univ, forall_const]
  constructor
  · exact fun h => Cert.Softmax.forall_pos.mp fun j u g => h u j j.isLt g
  · exact fun h u j _ g => h _

theorem sumN_at (n : ℕ) (u : Fin 8) :
    sumN (F := Ideal) M s n (ix2 u r) = ∑ i ∈ Finset.range n, ∑ g : Fin 32, expC (F := Ideal) M (s (Fin.ofNat 17 i)) (ix2 (sub g u) r) := by
  induction n with
  | zero => exact Ideal.ofBits_zero_f32
  | succ n ih =>
    have e : sumN (F := Ideal) M s (n + 1) (ix2 u r) = sumN (F := Ideal) M s n (ix2 u r) + gsumC (F := Ideal) (expC (F := Ideal) M (s (Fin.ofNat 17 n))) (ix2 u r) := rfl
    rw [e, ih, Finset.sum_range_succ, gsumC_at]

theorem accN_at (n : ℕ) (d : Fin 128) :
    accN (F := Ideal) M s v n (ix2 d r)
      = ∑ i ∈ Finset.range n, ∑ x : Fin 256, v (Fin.ofNat 17 i) (ix4 0 0 d x) * expC (F := Ideal) M (s (Fin.ofNat 17 i)) (ix2 x r) := by
  induction n with
  | zero => exact Ideal.ofBits_zero_f32
  | succ n ih =>
    have e : accN (F := Ideal) M s v (n + 1) (ix2 d r) = accN (F := Ideal) M s v n (ix2 d r) + pvC (F := Ideal) (v (Fin.ofNat 17 n)) (expC (F := Ideal) M (s (Fin.ofNat 17 n))) (ix2 d r) := rfl
    rw [e, ih, Finset.sum_range_succ, pvC_at]

theorem range17 (f : Fin 17 → EReal) : ∑ i ∈ Finset.range 17, f (Fin.ofNat 17 i) = ∑ j, f j := by
  rw [← Fin.sum_univ_eq_sum_range (fun i => f (Fin.ofNat 17 i))]
  exact Finset.sum_congr rfl fun j _ => congrArg f (Fin.ext (Nat.mod_eq_of_lt j.isLt))

/-- A finished entry, from the scores `f` of all keys and the row `w` of all values, in the reference's order of keys. -/
theorem finT_maxN (f w : Fin 4352 → EReal) (hf : ∀ j x, s j (ix2 x r) = f (Cert.Softmax.pos j x)) (d : Fin 128)
    (hw : ∀ j x, v j (ix4 0 0 d x) = w (Cert.Softmax.pos j x)) :
    finT (F := Ideal) (sumN (F := Ideal) (maxN (F := Ideal) s 17) s 17) (accN (F := Ideal) (maxN (F := Ideal) s 17) s v 17) (ix3 r d)
      = Ideal.div (∑ k, w k * Ideal.exp2 (f k - Finset.univ.sup f)) (∑ k, Ideal.exp2 (f k - Finset.univ.sup f)) := by
  have he : ∀ j x, expC (F := Ideal) (maxN (F := Ideal) s 17) (s j) (ix2 x r) = Ideal.exp2 (f (Cert.Softmax.pos j x) - Finset.univ.sup f) := fun j x => by
    rw [expC_at, mrow_maxN s r f hf, hf]
  rw [finT_at]
  congr 1
  · rw [accN_at, range17 (fun j => ∑ x : Fin 256, v j (ix4 0 0 d x) * expC (F := Ideal) (maxN (F := Ideal) s 17) (s j) (ix2 x r)),
      ← Cert.Softmax.sum_pos]
    exact Finset.sum_congr rfl fun j _ => Finset.sum_congr rfl fun x _ => by rw [he, hw]
  · rw [← Cert.Softmax.sum_pos]
    simp only [← Cert.Softmax.sum_sub]
    rw [Finset.sum_comm]
    refine Finset.sum_congr rfl fun u _ => ?_
    rw [sumN_at, range17 (fun j => ∑ g : Fin 32, expC (F := Ideal) (maxN (F := Ideal) s 17) (s j) (ix2 (sub g u) r))]
    exact Finset.sum_congr rfl fun j _ => Finset.sum_congr rfl fun g _ => he _ _

end

end Cert.KernelIdeal.Attn

end
-- ==== Proof.Value.Scores.lean ====
module

public import Idealize.ShloMosaic.Lib.Pointwise

@[expose] public section

set_option maxRecDepth 16384

noncomputable section

namespace Cert.Softmax

open Idealize.ShloMosaic

/-! ## The keys, the values and the scores of one head, over the extended reals -/

abbrev SQ : Shape := ⟨4, ![4, 8, 4096, 256]⟩
abbrev SC : Shape := ⟨4, ![4, 8, 256, 256]⟩
abbrev SV : Shape := ⟨4, ![4, 8, 128, 4096]⟩
abbrev SW : Shape := ⟨4, ![4, 8, 128, 256]⟩

/-- Entry `e` of key `n` of head `h` of batch `b`, the context's 256 keys first, -/
def keyE (k : FVec Ideal SQ .bf16) (kc : FVec Ideal SC .bf16) (b : Fin 4) (h : Fin 8) (n : Fin 4352) (e : Fin 256) : EReal :=
  if hn : n.val < 256 then kc (ix4 b h ⟨n.val, hn⟩ e) else k (ix4 b h ⟨n.val - 256, by omega⟩ e)
/-- entry `d` of its value, -/
def valE (v : FVec Ideal SV .bf16) (vc : FVec Ideal SW .bf16) (b : Fin 4) (h : Fin 8) (d : Fin 128) (n : Fin 4352) : EReal :=
  if hn : n.val < 256 then vc (ix4 b h d ⟨n.val, hn⟩) else v (ix4 b h d ⟨n.val - 256, by omega⟩)
/-- and its score against query `x`. -/
def scoreE (q k : FVec Ideal SQ .bf16) (kc : FVec Ideal SC .bf16) (b : Fin 4) (h : Fin 8) (x : Fin 4096) (n : Fin 4352) : EReal :=
  ∑ e, keyE k kc b h n e * q (ix4 b h x e)

/-- With no infinity among the queries and the keys a score is a real number. -/
theorem scoreE_real (q k : FVec Ideal SQ .bf16) (kc : FVec Ideal SC .bf16)
    (hq : ∀ i, q i ≠ ⊥ ∧ q i ≠ ⊤) (hk : ∀ i, k i ≠ ⊥ ∧ k i ≠ ⊤) (hc : ∀ i, kc i ≠ ⊥ ∧ kc i ≠ ⊤) (b : Fin 4) (h : Fin 8) (x : Fin 4096) :
    ∃ σ : Fin 4352 → ℝ, scoreE q k kc b h x = fun n => (σ n : EReal) := by
  have key : ∀ n e, keyE k kc b h n e ≠ ⊥ ∧ keyE k kc b h n e ≠ ⊤ := fun n e => by
    unfold keyE
    split
    · exact hc _
    · exact hk _
  have term : ∀ n e, keyE k kc b h n e * q (ix4 b h x e) = (((keyE k kc b h n e).toReal * (q (ix4 b h x e)).toReal : ℝ) : EReal) := fun n e => by
    rw [EReal.coe_mul, EReal.coe_toReal (key n e).2 (key n e).1, EReal.coe_toReal (hq _).2 (hq _).1]
  refine ⟨fun n => ∑ e, (keyE k kc b h n e).toReal * (q (ix4 b h x e)).toReal, funext fun n => ?_⟩
  unfold scoreE
  simp only [term]
  refine Finset.induction_on (motive := fun s => ∑ e ∈ s, (((keyE k kc b h n e).toReal * (q (ix4 b h x e)).toReal : ℝ) : EReal)
    = ((∑ e ∈ s, (keyE k kc b h n e).toReal * (q (ix4 b h x e)).toReal : ℝ) : EReal)) Finset.univ ?_ ?_
  · simp
  · intro a s ha ih
    rw [Finset.sum_insert ha, Finset.sum_insert ha, ih, EReal.coe_add]

end Cert.Softmax

end
-- ==== Proof.Value.Attn.lean ====
module

public import proofs.«01_k».proof.Proof.KernelIdeal.Run
public import proofs.«01_k».proof.Proof.Value.Tiles
public import proofs.«01_k».proof.Proof.Value.Scores

@[expose] public section

set_option maxRecDepth 16384

noncomputable section

namespace Cert.KernelIdeal.Attn

open Cert.KernelIdeal Cert.KernelIdeal.Gen
open Idealize.ShloMosaic Idealize.ShloMosaic.TcCoe Idealize.SL.Sem
open Cert.Softmax (keyE valE scoreE pos)

/-! ## The kernel's value at an entry, over the extended reals -/

variable (m : (ℓ : Loc nD τ sig) → Buf (Elt Ideal) ℓ) (c : Dev nD)

/-- The five operands, -/
abbrev aQ : FVec Ideal S4x8x4096x256 .bf16 := m ((c : Thread nD τ).loc main_arg0)
abbrev aK : FVec Ideal S4x8x4096x256 .bf16 := m ((c : Thread nD τ).loc main_arg1)
abbrev aKc : FVec Ideal S4x8x256x256 .bf16 := m ((c : Thread nD τ).loc main_arg2)
abbrev aV : FVec Ideal S4x8x128x4096 .bf16 := m ((c : Thread nD τ).loc main_arg3)
abbrev aVc : FVec Ideal S4x8x128x256 .bf16 := m ((c : Thread nD τ).loc main_arg4)

/-- and the batch and the head of point `t`. -/
def bOf (t : Fin cfg0.N) : Fin 4 := ⟨t.val / 8, by have := lt32 t; omega⟩
def hOf (t : Fin cfg0.N) : Fin 8 := ⟨t.val % 8, by omega⟩

theorem at_q (t : Fin cfg0.N) (r : ℕ) (hr : r < 4096) (e : ℕ) (he : e < 256) :
    at4x8x4096x256 t r hr e he = ix4 (bOf t) (hOf t) ⟨r, hr⟩ ⟨e, he⟩ := by
  funext a
  match a with
  | ⟨0, _⟩ => rfl
  | ⟨1, _⟩ => rfl
  | ⟨2, _⟩ => rfl
  | ⟨3, _⟩ => rfl
theorem at_kc (t : Fin cfg0.N) (r : ℕ) (hr : r < 256) (e : ℕ) (he : e < 256) :
    at4x8x256x256 t r hr e he = ix4 (bOf t) (hOf t) ⟨r, hr⟩ ⟨e, he⟩ := by
  funext a
  match a with
  | ⟨0, _⟩ => rfl
  | ⟨1, _⟩ => rfl
  | ⟨2, _⟩ => rfl
  | ⟨3, _⟩ => rfl
theorem at_v (t : Fin cfg0.N) (r : ℕ) (hr : r < 128) (e : ℕ) (he : e < 4096) :
    at4x8x128x4096 t r hr e he = ix4 (bOf t) (hOf t) ⟨r, hr⟩ ⟨e, he⟩ := by
  funext a
  match a with
  | ⟨0, _⟩ => rfl
  | ⟨1, _⟩ => rfl
  | ⟨2, _⟩ => rfl
  | ⟨3, _⟩ => rfl
theorem at_vc (t : Fin cfg0.N) (r : ℕ) (hr : r < 128) (e : ℕ) (he : e < 256) :
    at4x8x128x256 t r hr e he = ix4 (bOf t) (hOf t) ⟨r, hr⟩ ⟨e, he⟩ := by
  funext a
  match a with
  | ⟨0, _⟩ => rfl
  | ⟨1, _⟩ => rfl
  | ⟨2, _⟩ => rfl
  | ⟨3, _⟩ => rfl

theorem key_at (t : Fin cfg0.N) (j : Fin 17) (x e : Fin 256) :
    kAt (F := Ideal) m c t j (ix4 0 0 x e) = keyE (aK m c) (aKc m c) (bOf t) (hOf t) (pos j x) e := by
  have hj := j.isLt
  have hx := x.isLt
  have hp : (pos j x).val = if j.val = 16 then x.val else 256 + 256 * j.val + x.val := rfl
  unfold kAt kchB keyE
  by_cases h : j.val < 16
  · rw [if_neg (by omega)] at hp
    rw [dif_pos h, dif_neg (by omega)]
    refine ((iblk2_apply m c t _).trans (congrArg _ (at_q t _ _ _ _))).trans ?_
    show aK m c _ = aK m c _
    congr 2
    · apply Fin.ext
      show 256 * j.val + 1 * x.val = (pos j x).val - 256
      omega
    · apply Fin.ext
      show 0 + 1 * e.val = e.val
      omega
  · rw [if_pos (by omega)] at hp
    rw [dif_neg h, dif_pos (by omega)]
    refine ((iblk3_apply m c t _).trans (congrArg _ (at_kc t _ _ _ _))).trans ?_
    show aKc m c _ = aKc m c _
    congr 2
    apply Fin.ext
    exact hp.symm

theorem val_at (t : Fin cfg0.N) (j : Fin 17) (d : Fin 128) (x : Fin 256) :
    vAt (F := Ideal) m c t j (ix4 0 0 d x) = valE (aV m c) (aVc m c) (bOf t) (hOf t) d (pos j x) := by
  have hj := j.isLt
  have hx := x.isLt
  have hp : (pos j x).val = if j.val = 16 then x.val else 256 + 256 * j.val + x.val := rfl
  unfold vAt vchB valE
  by_cases h : j.val < 16
  · rw [if_neg (by omega)] at hp
    rw [dif_pos h, dif_neg (by omega)]
    refine ((iblk6_apply m c t _).trans (congrArg _ (at_v t _ _ _ _))).trans ?_
    show aV m c _ = aV m c _
    congr 2
    · apply Fin.ext
      show 0 + 1 * d.val = d.val
      omega
    · apply Fin.ext
      show 256 * j.val + 1 * x.val = (pos j x).val - 256
      omega
  · rw [if_pos (by omega)] at hp
    rw [dif_neg h, dif_pos (by omega)]
    refine ((iblk7_apply m c t _).trans (congrArg _ (at_vc t _ _ _ _))).trans ?_
    show aVc m c _ = aVc m c _
    congr 2
    apply Fin.ext
    exact hp.symm

theorem query_at (t : Fin cfg0.N) (i : ℕ) (hi : i < 8) (e : Fin 256) (r : Fin 512) :
    qAt (F := Ideal) m c t i (ix2 e r) = aQ m c (ix4 (bOf t) (hOf t) ⟨512 * i + r.val, by omega⟩ e) := by
  unfold qAt tqB
  rw [trT_at]
  refine ((iblk0_apply m c t _).trans (congrArg _ (at_q t _ _ _ _))).trans ?_
  show aQ m c _ = aQ m c _
  congr 2
  · apply Fin.ext
    show 512 * (i % 8) + 1 * r.val = 512 * i + r.val
    rw [Nat.mod_eq_of_lt hi]
    omega
  · apply Fin.ext
    show 0 + 1 * e.val = e.val
    omega

theorem sc_at (t : Fin cfg0.N) (i : ℕ) (hi : i < 8) (j : Fin 17) (x : Fin 256) (r : Fin 512) :
    sc (F := Ideal) (kAt m c t) (qAt m c t) i j (ix2 x r)
      = scoreE (aQ m c) (aK m c) (aKc m c) (bOf t) (hOf t) ⟨512 * i + r.val, by omega⟩ (pos j x) := by
  unfold sc scoreE
  rw [scoreC_at]
  exact Finset.sum_congr rfl fun e _ => by rw [key_at, query_at m c t i hi]

/-- Every tile is divided by sums against its own largest scores. -/
theorem mx_eq (t : Fin cfg0.N) (i : ℕ) :
    mx (kAt m c t) (qAt m c t) (m0At (F := Ideal) m c t) i = maxN (sc (kAt m c t) (qAt m c t) i) 17 := by
  cases i with
  | zero =>
    show m0At (F := Ideal) m c t = _
    unfold m0At
    split
    · exact maxN0_eq _
    · rfl
  | succ i => rfl

theorem ot_at (t : Fin cfg0.N) (i : ℕ) (hi : i < 8) (r : Fin 512) (d : Fin 128) (X : Fin 4096) (hX : X.val = 512 * i + r.val) :
    ot (F := Ideal) (kAt m c t) (vAt m c t) (qAt m c t) (m0At m c t) i (ix3 r d)
      = Ideal.div
          (∑ n, valE (aV m c) (aVc m c) (bOf t) (hOf t) d n
            * Ideal.exp2 (scoreE (aQ m c) (aK m c) (aKc m c) (bOf t) (hOf t) X n - Finset.univ.sup (scoreE (aQ m c) (aK m c) (aKc m c) (bOf t) (hOf t) X)))
          (∑ n, Ideal.exp2 (scoreE (aQ m c) (aK m c) (aKc m c) (bOf t) (hOf t) X n - Finset.univ.sup (scoreE (aQ m c) (aK m c) (aKc m c) (bOf t) (hOf t) X))) := by
  have hr : 512 * i + r.val < 4096 := by omega
  obtain rfl : X = ⟨512 * i + r.val, hr⟩ := Fin.ext hX
  unfold ot sm ac
  rw [mx_eq]
  exact finT_maxN _ _ r _ _ (fun j x => sc_at m c t i hi j x r) d (fun j x => val_at m c t j d x)

/-- The entry at row `X`, column `Y` of batch `b`. -/
theorem attn_at (b : Fin 4) (X : Fin 4096) (Y : Fin 1024) :
    attn (F := Ideal) m c (Idealize.ShloMosaic.ix3 b X Y)
      = Ideal.div
          (∑ n, valE (aV m c) (aVc m c) b ⟨Y.val / 128, by omega⟩ ⟨Y.val % 128, by omega⟩ n
            * Ideal.exp2 (scoreE (aQ m c) (aK m c) (aKc m c) b ⟨Y.val / 128, by omega⟩ X n
              - Finset.univ.sup (scoreE (aQ m c) (aK m c) (aKc m c) b ⟨Y.val / 128, by omega⟩ X)))
          (∑ n, Ideal.exp2 (scoreE (aQ m c) (aK m c) (aKc m c) b ⟨Y.val / 128, by omega⟩ X n
            - Finset.univ.sup (scoreE (aQ m c) (aK m c) (aKc m c) b ⟨Y.val / 128, by omega⟩ X))) := by
  have hb : bOf (ptOf (Idealize.ShloMosaic.ix3 b X Y)) = b := Fin.ext (by show (8 * b.val + Y.val / 128) / 8 = b.val; omega)
  have hh : hOf (ptOf (Idealize.ShloMosaic.ix3 b X Y)) = ⟨Y.val / 128, by omega⟩ := Fin.ext (by show (8 * b.val + Y.val / 128) % 8 = Y.val / 128; omega)
  have e := ot_at m c (ptOf (Idealize.ShloMosaic.ix3 b X Y)) (X.val / 512) (by omega) ⟨X.val % 512, by omega⟩ ⟨Y.val % 128, by omega⟩ X
    (by show X.val = 512 * (X.val / 512) + X.val % 512; omega)
  rw [hb, hh] at e
  exact e

end Cert.KernelIdeal.Attn

end
-- ==== Proof.Value.Reference.lean ====
module

public import proofs.«01_k».proof.Proof.ReferenceIdeal.Run
public import proofs.«01_k».proof.Proof.Value.Scores
public import Idealize.ShloMosaic.Lib.Pointwise

@[expose] public section

set_option maxRecDepth 16384

noncomputable section

namespace Cert.ReferenceIdeal.Attn

open Cert.ReferenceIdeal Cert.ReferenceIdeal.Gen
open Idealize.ShloMosaic Idealize.ShloMosaic.TcCoe Idealize.SL.Sem
open Cert.Softmax (keyE valE scoreE)

/-! ## The reference's stages, entry by entry, over the extended reals -/

theorem ofBits_negInf : Ideal.ofBits .f32 0xFF800000#32 = ⊥ := by
  simp [Ideal.ofBits, Ideal.ieee]

theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee]
    rw [← EReal.coe_mul]
    norm_num
  rw [e, Ideal.log_coe, if_neg (by norm_num)]

/-- A largest element along the last of four axes. -/
theorem reduceMax_at {n0 n1 n2 n3 : Nat} {u : Shape} (x : FVec Ideal ⟨4, ![n0, n1, n2, n3]⟩ .f32) (c : FVec Ideal u .f32)
    (h : (⟨4, ![n0, n1, n2, n3]⟩ : Shape).ReducesTo [3] ⟨3, ![n0, n1, n2]⟩) (hu : 0 < u.numel) (hc : c (Shape.Idx.first hu) = (⊥ : EReal))
    (i : Fin n0) (j : Fin n1) (k : Fin n2) :
    Host.reduce (FloatOps.maximumf : Ideal .f32 → Ideal .f32 → Ideal .f32) x c h hu (ix3 i j k) = Finset.univ.sup fun n : Fin n3 => (x (ix4 i j k n) : EReal) := by
  rw [Ideal.maximumf_eq_max, Host.reduce_eq_fold, Shape.ReducesTo.fold_fiber_r4_a3, hc]
  rfl

section
variable (q k : FVec Ideal S4x8x4096x256 .bf16) (kc : FVec Ideal S4x8x256x256 .bf16) (v : FVec Ideal S4x8x128x4096 .bf16) (vc : FVec Ideal S4x8x128x256 .bf16)
  (b : Fin 4) (h : Fin 8) (x : Fin 4096)

theorem keys_at (n : Fin 4352) (e : Fin 256) : keys (F := Ideal) k kc (ix4 b h n e) = keyE k kc b h n e := by
  pointwise [keys]
  rfl
theorem vals_at (d : Fin 128) (n : Fin 4352) : vals (F := Ideal) v vc (ix4 b h d n) = valE v vc b h d n := by
  pointwise [vals]
  rfl

theorem scores_at (n : Fin 4352) : scores (F := Ideal) q k kc (ix4 b h x n) = scoreE q k kc b h x n * (Real.log 2 : ℝ) := by
  pointwise [scores]
  rw [log_two]
  unfold scoreE
  congr 1
  exact Finset.sum_congr rfl fun e _ => by rw [keys_at, mul_comm]

theorem top_at (s : FVec Ideal S4x8x4096x4352 .f32) : top (F := Ideal) s (ix3 b h x) = Finset.univ.sup fun n : Fin 4352 => s (ix4 b h x n) := by
  have h0 : (constant (F := Ideal) S_ .f32 0xFF800000#32) (Shape.Idx.first h_S_) = (⊥ : EReal) := ofBits_negInf
  have e := reduceMax_at (n0 := 4) (n1 := 8) (n2 := 4096) (n3 := 4352) s (constant (F := Ideal) S_ .f32 0xFF800000#32) reducesTo_S4x8x4096x4352_S4x8x4096_d3 h_S_ h0 b h x
  have h1 : ∀ (a b : FVec Ideal S4x8x4096 .f32) i, maximumf a b i = (max (a i) (b i) : EReal) := fun _ _ _ => rfl
  have h2 : ∀ i, broadcastInDim S4x8x4096 ![] bcast_S_S4x8x4096 (constant (F := Ideal) S_ .f32 0xFF800000#32) i = (⊥ : EReal) := fun i => ofBits_negInf
  unfold top
  rw [h1, h2, e]
  exact max_eq_right bot_le

theorem exps_at (s : FVec Ideal S4x8x4096x4352 .f32) (n : Fin 4352) :
    exps (F := Ideal) s (ix4 b h x n) = Ideal.exp (s (ix4 b h x n) - Finset.univ.sup fun n : Fin 4352 => s (ix4 b h x n)) := by
  pointwise [exps, rep]
  rw [top_at]

theorem weights_at (p : FVec Ideal S4x8x4096x4352 .f32) (n : Fin 4352) :
    weights (F := Ideal) p (ix4 b h x n) = Ideal.div (p (ix4 b h x n)) (∑ n : Fin 4352, p (ix4 b h x n)) := by
  pointwise [weights, rep]

theorem mean_at (w : FVec Ideal S4x8x4096x4352 .f32) (d : Fin 128) :
    mean (F := Ideal) v vc w (ix4 b h d x) = ∑ n : Fin 4352, valE v vc b h d n * w (ix4 b h x n) := by
  pointwise [mean]
  exact Finset.sum_congr rfl fun n _ => by rw [vals_at]

theorem out_at (y : Fin 1024) : out (F := Ideal) q k kc v vc (ix3 b x y)
    = mean (F := Ideal) v vc (weights (exps (scores q k kc))) (ix4 b ⟨y.val / 128, by omega⟩ ⟨y.val % 128, by omega⟩ x) := by
  pointwise [out]

/-- The reference's value at an entry: column `y` is row `y % 128` of head `y / 128`. -/
theorem out_val (y : Fin 1024) : out (F := Ideal) q k kc v vc (ix3 b x y)
    = ∑ n : Fin 4352, valE v vc b ⟨y.val / 128, by omega⟩ ⟨y.val % 128, by omega⟩ n * Ideal.div
        (Ideal.exp (scoreE q k kc b ⟨y.val / 128, by omega⟩ x n * (Real.log 2 : ℝ)
          - Finset.univ.sup fun n => scoreE q k kc b ⟨y.val / 128, by omega⟩ x n * (Real.log 2 : ℝ)))
        (∑ n : Fin 4352, Ideal.exp (scoreE q k kc b ⟨y.val / 128, by omega⟩ x n * (Real.log 2 : ℝ)
          - Finset.univ.sup fun n => scoreE q k kc b ⟨y.val / 128, by omega⟩ x n * (Real.log 2 : ℝ))) := by
  rw [out_at, mean_at]
  simp only [weights_at, exps_at, scores_at]

end

end Cert.ReferenceIdeal.Attn

end
-- ==== Proof.Value.Equal.lean ====
module

public import proofs.«01_k».proof.Defs
public import proofs.«01_k».proof.Proof.Gen.Pre_finite
public import proofs.«01_k».proof.Proof.Value.Attn
public import proofs.«01_k».proof.Proof.Value.Reference
public import proofs.«01_k».proof.Proof.Value.Softmax
public import Idealize.ShloMosaic.Lib.ReduceAll

@[expose] public section

set_option maxRecDepth 16384

noncomputable section

namespace Cert.Equal

open Idealize.ShloMosaic Idealize.ShloMosaic.TcCoe Idealize.SL.Sem
open Cert.Softmax (SQ SC SV SW keyE valE scoreE scoreE_real)

/-! ## What the precondition says -/

theorem ofBits_inf : Ideal.ofBits .f32 0x7F800000#32 = ⊤ := by
  simp [Ideal.ofBits, Ideal.ieee]

/-- An entry whose absolute value is below infinity is a real number. -/
theorem real_of_lt (x : EReal) (h : max x (-x) < ⊤) : x ≠ ⊥ ∧ x ≠ ⊤ := by
  refine ⟨?_, ?_⟩ <;> rintro rfl <;> simp at h

instance : Subsingleton Cert.Pre_finite.S_.Idx := ⟨fun _ _ => funext fun a => a.elim0⟩

theorem lt_of_cmp {x y : EReal} (h : Ideal.cmp .olt x y = 1#1) : x < y := by
  rw [Ideal.cmp_olt] at h
  by_contra hn
  rw [decide_eq_false hn] at h
  exact absurd h (by decide)

section
variable (q k : FVec Ideal SQ .bf16) (kc : FVec Ideal SC .bf16) (v : FVec Ideal SV .bf16) (vc : FVec Ideal SW .bf16)

theorem finite_of_pre [Cert.Pre_finite.Facts] (h : Cert.Pre_finite.fn (F := Ideal) q k kc v vc = fun _ => 1#1) :
    (∀ i, q i ≠ (⊥ : EReal) ∧ q i ≠ (⊤ : EReal)) ∧ (∀ i, k i ≠ (⊥ : EReal) ∧ k i ≠ (⊤ : EReal)) ∧ ∀ i, kc i ≠ (⊥ : EReal) ∧ kc i ≠ (⊤ : EReal) := by
  have e := congrFun h (Shape.Idx.first Cert.Pre_finite.Facts.h_S_)
  unfold Cert.Pre_finite.fn at e
  obtain ⟨e1, e3⟩ := IntOp.andi_eq_one.mp e
  obtain ⟨e1, e2⟩ := IntOp.andi_eq_one.mp e1
  have key : ∀ x : EReal, Ideal.cmp .olt (max x (-x)) (Ideal.ofBits .f32 0x7F800000#32) = 1#1 → x ≠ ⊥ ∧ x ≠ ⊤ := fun x hx =>
    real_of_lt x (ofBits_inf ▸ lt_of_cmp hx)
  exact ⟨fun i => key _ (Host.reduce_andi_all _ _ _ _ _ e1 i), fun i => key _ (Host.reduce_andi_all _ _ _ _ _ e2 i),
    fun i => key _ (Host.reduce_andi_all _ _ _ _ _ e3 i)⟩

end

/-! ## The two values -/

theorem attn_eq_out (m : (ℓ : Loc Cert.KernelIdeal.nD Cert.KernelIdeal.τ Cert.KernelIdeal.sig) → Buf (Elt Ideal) ℓ) (c : Dev Cert.KernelIdeal.nD)
    (hq : ∀ i, Cert.KernelIdeal.Attn.aQ m c i ≠ (⊥ : EReal) ∧ Cert.KernelIdeal.Attn.aQ m c i ≠ (⊤ : EReal))
    (hk : ∀ i, Cert.KernelIdeal.Attn.aK m c i ≠ (⊥ : EReal) ∧ Cert.KernelIdeal.Attn.aK m c i ≠ (⊤ : EReal))
    (hc : ∀ i, Cert.KernelIdeal.Attn.aKc m c i ≠ (⊥ : EReal) ∧ Cert.KernelIdeal.Attn.aKc m c i ≠ (⊤ : EReal)) :
    (Cert.KernelIdeal.Attn.attn (F := Ideal) m c : FVec Ideal Cert.KernelIdeal.S4x4096x1024 .bf16)
      = Cert.ReferenceIdeal.Attn.out (F := Ideal) (Cert.KernelIdeal.Attn.aQ m c) (Cert.KernelIdeal.Attn.aK m c) (Cert.KernelIdeal.Attn.aKc m c)
          (Cert.KernelIdeal.Attn.aV m c) (Cert.KernelIdeal.Attn.aVc m c) := by
  funext i
  obtain ⟨b, X, Y, rfl⟩ : ∃ (b : Fin 4) (X : Fin 4096) (Y : Fin 1024), i = ix3 b X Y := by
    refine ⟨i 0, i 1, i 2, funext fun a => ?_⟩
    match a with
    | ⟨0, _⟩ => rfl
    | ⟨1, _⟩ => rfl
    | ⟨2, _⟩ => rfl
  refine (Cert.KernelIdeal.Attn.attn_at m c b X Y).trans (Eq.trans ?_ (Cert.ReferenceIdeal.Attn.out_val _ _ _ _ _ b X Y).symm)
  obtain ⟨σ, hσ⟩ := scoreE_real _ _ _ hq hk hc b ⟨Y.val / 128, by omega⟩ X
  rw [hσ]
  exact Cert.Softmax.mean_eq σ _

end Cert.Equal

end
-- ==== Proof.Out.Row.lean ====
module

public import Idealize.ShloMosaic.Lib.Pointwise

@[expose] public section

set_option maxRecDepth 16384

noncomputable section

namespace Cert.Ffn

open Idealize.ShloMosaic

/-! ## One row of the output projection and the second feed-forward layer, over the extended reals -/

theorem one_bits : Ideal.ofBits .f32 0x3F800000#32 = 1 := by
  simp [Ideal.ofBits, Ideal.ieee]
  rw [← EReal.coe_mul, ← EReal.coe_one]
  norm_num
theorem two_bits : Ideal.ofBits .f32 0x40000000#32 = ((2 : ℝ) : EReal) := by
  simp [Ideal.ofBits, Ideal.ieee]
  rw [← EReal.coe_mul]
  norm_num

/-- A row of the input plus the gated projection of the attention's row, -/
def mid (x m o : Fin 1024 → EReal) (w : Fin 1024 → Fin 1024 → EReal) (j : Fin 1024) : EReal := x j + m j * ∑ k, o k * w k j
/-- the reciprocal of a row's root mean square, -/
def inv (h : Fin 1024 → EReal) : EReal :=
  Ideal.rsqrt (Ideal.div (∑ k, h k * h k) (Ideal.ofBits .f32 0x44800000#32) + Ideal.ofBits .f32 0x358637BD#32)
/-- a row normalised, -/
def norm (h g : Fin 1024 → EReal) (j : Fin 1024) : EReal := h j * inv h * g j
/-- a normalised row scaled and shifted, -/
def modn (h g b s : Fin 1024 → EReal) (j : Fin 1024) : EReal := norm h g j * (1 + s j) + b j
/-- a hidden column before the gate, -/
def lin (y : Fin 1024 → EReal) (w : Fin 1024 → Fin 5632 → EReal) (n : Fin 5632) : EReal := ∑ k, y k * w k n
def lo (n : Fin 2816) : Fin 5632 := ⟨n.val, by omega⟩
def hi (n : Fin 2816) : Fin 5632 := ⟨2816 + n.val, by omega⟩
/-- a hidden column, the gate through a hyperbolic tangent, -/
def act (y : Fin 1024 → EReal) (w : Fin 1024 → Fin 5632 → EReal) (n : Fin 2816) : EReal :=
  (Ideal.tanh (lin y w (lo n)) + 1) * lin y w (lo n) * lin y w (hi n)
/-- a row plus the gated product of its hidden columns. -/
def last (h m : Fin 1024 → EReal) (a : Fin 2816 → EReal) (w : Fin 2816 → Fin 1024 → EReal) (j : Fin 1024) : EReal := h j + m j * ∑ n, a n * w n j
/-- The result's row. -/
def row (x o m2 m3 m4 m5 g fg : Fin 1024 → EReal) (wo : Fin 1024 → Fin 1024 → EReal) (wi : Fin 1024 → Fin 5632 → EReal) (wd : Fin 2816 → Fin 1024 → EReal) :
    Fin 1024 → EReal :=
  norm (last (mid x m2 o wo) m5 (act (modn (mid x m2 o wo) g m3 m4) wi) wd) fg

/-- The hyperbolic tangent of half of the gate gives the gate times its logistic function. -/
theorem silu_eq (h : EReal) : ((2 : ℝ) : EReal) * h * Ideal.div 1 (1 + Ideal.exp (-(((2 : ℝ) : EReal) * h))) = (Ideal.tanh h + 1) * h := by
  induction h using EReal.rec with
  | bot =>
    have z : (-1 : EReal) + 1 = 0 := by
      rw [← EReal.coe_one, ← EReal.coe_neg, ← EReal.coe_add]
      norm_num
    have t : (1 : EReal) + ⊤ = ⊤ := by rw [← EReal.coe_one, EReal.coe_add_top]
    rw [EReal.coe_mul_bot_of_pos (by norm_num), Ideal.tanh_bot, z, zero_mul, EReal.neg_bot, Ideal.exp_top, t, Ideal.div, if_neg EReal.top_ne_zero,
      EReal.inv_top, mul_zero, mul_zero]
  | top =>
    have z : (1 : EReal) + 1 = ((2 : ℝ) : EReal) := by
      rw [← EReal.coe_one, ← EReal.coe_add]
      norm_num
    have d : Ideal.div (1 : EReal) 1 = 1 := by
      rw [← EReal.coe_one, Ideal.div_coe one_ne_zero, ← EReal.coe_mul]
      norm_num
    rw [EReal.coe_mul_top_of_pos (by norm_num), Ideal.tanh_top, EReal.neg_top, Ideal.exp_bot, add_zero, d, mul_one, z, EReal.coe_mul_top_of_pos (by norm_num)]
  | coe r =>
    have e : ((2 : ℝ) : EReal) * (r : EReal) = ((2 * r : ℝ) : EReal) := (EReal.coe_mul _ _).symm
    have p : 0 < 1 + Real.exp (-(2 * r)) := by positivity
    rw [e, ← EReal.coe_neg, Ideal.exp_coe, Ideal.tanh_coe]
    have q : (1 : EReal) + ((Real.exp (-(2 * r)) : ℝ) : EReal) = ((1 + Real.exp (-(2 * r)) : ℝ) : EReal) := by
      rw [EReal.coe_add, EReal.coe_one]
    have t : ((Real.tanh r : ℝ) : EReal) + 1 = ((Real.tanh r + 1 : ℝ) : EReal) := by rw [EReal.coe_add, EReal.coe_one]
    have d : Ideal.div (1 : EReal) ((1 + Real.exp (-(2 * r)) : ℝ) : EReal) = ((1 / (1 + Real.exp (-(2 * r))) : ℝ) : EReal) := by
      rw [Ideal.div_coe p.ne', one_mul]
    rw [q, t, d, ← EReal.coe_mul, ← EReal.coe_mul]
    congr 1
    have u : Real.exp (-(2 * r)) = Real.exp (-r) / Real.exp r := by
      rw [← Real.exp_sub]
      congr 1
      ring
    have v := Real.exp_pos r
    have w := Real.exp_pos (-r)
    rw [u, Real.tanh_eq_sinh_div_cosh, Real.sinh_eq, Real.cosh_eq]
    field_simp
    ring

end Cert.Ffn

end
-- ==== Proof.Out.Tile.lean ====
module

public import proofs.«01_k».proof.Proof.Gen.Kernel2Ideal.Value
public import proofs.«01_k».proof.Proof.Out.Row

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem
open Cert.Ffn

/-! ## A tile's values, entry by entry, over the extended reals -/

section
variable (x : FVec Ideal S256x1024 .f32) (m : FVec Ideal S1x1x1024 .f32) (o : FVec Ideal S256x1024 .bf16) (w : FVec Ideal S1024x1024 .bf16)
  (r : Fin 256) (j : Fin 1024)

theorem mid3_at : k0_pay3 (F := Ideal) x m o w (ix2 r j)
    = mid (fun j => x (ix2 r j)) (fun j => m (ix3 0 0 j)) (fun k => o (ix2 r k)) (fun k j => w (ix2 k j)) j := by
  pointwise [k0_pay3]
  rfl
theorem mid4_at : k0_pay4 (F := Ideal) x m o w (ix2 r j)
    = mid (fun j => x (ix2 r j)) (fun j => m (ix3 0 0 j)) (fun k => o (ix2 r k)) (fun k j => w (ix2 k j)) j := by
  pointwise [k0_pay4]
  rfl

section
variable (g : FVec Ideal S1x1024 .f32) (b s : FVec Ideal S1x1x1024 .f32)

theorem mod8_at : k0_pay8 (F := Ideal) (k0_pay3 x m o w) g (k0_pay5 b) (k0_pay6 s) (k0_pay7 x m o w) (Scalar.ofBits .f32 0x358637BD#32) (ix2 r j)
    = modn (fun j => k0_pay3 (F := Ideal) x m o w (ix2 r j)) (fun j => g (ix2 0 j)) (fun j => b (ix3 0 0 j)) (fun j => s (ix3 0 0 j)) j := by
  pointwise [k0_pay8, k0_pay5, k0_pay6, k0_pay7]
  rfl
theorem mod10_at (h : FVec Ideal S256x1024 .f32) : k0_pay10 (F := Ideal) h g b s (ix2 r j)
    = modn (fun j => h (ix2 r j)) (fun j => g (ix2 0 j)) (fun j => b (ix3 0 0 j)) (fun j => s (ix3 0 0 j)) j := by
  pointwise [k0_pay10]
  rfl
end

section
variable (y : FVec Ideal S256x1024 .bf16) (w0 w1 : FVec Ideal S1x1024x1536 .bf16) (v0 v1 : FVec Ideal S1x1024x1280 .bf16)

theorem act13_at (n : Fin 1536) : k0_pay13 (F := Ideal) y (k0_pay12 w0) w1 (ix2 r n)
    = (Ideal.tanh (∑ k, y (ix2 r k) * w0 (ix3 0 k n)) + 1) * (∑ k, y (ix2 r k) * w0 (ix3 0 k n)) * (∑ k, y (ix2 r k) * w1 (ix3 0 k n)) := by
  pointwise [k0_pay13, k0_pay12]
theorem act14_at (n : Fin 1536) : k0_pay14 (F := Ideal) y w0 w1 (ix2 r n)
    = (Ideal.tanh (∑ k, y (ix2 r k) * w0 (ix3 0 k n)) + 1) * (∑ k, y (ix2 r k) * w0 (ix3 0 k n)) * (∑ k, y (ix2 r k) * w1 (ix3 0 k n)) := by
  pointwise [k0_pay14]
theorem act15_at (n : Fin 1280) : k0_pay15 (F := Ideal) y v0 v1 (ix2 r n)
    = (Ideal.tanh (∑ k, y (ix2 r k) * v0 (ix3 0 k n)) + 1) * (∑ k, y (ix2 r k) * v0 (ix3 0 k n)) * (∑ k, y (ix2 r k) * v1 (ix3 0 k n)) := by
  pointwise [k0_pay15]
theorem act16_at (n : Fin 1280) : k0_pay16 (F := Ideal) y v0 v1 (ix2 r n)
    = (Ideal.tanh (∑ k, y (ix2 r k) * v0 (ix3 0 k n)) + 1) * (∑ k, y (ix2 r k) * v0 (ix3 0 k n)) * (∑ k, y (ix2 r k) * v1 (ix3 0 k n)) := by
  pointwise [k0_pay16]
end

/-- A row plus the gated products of its first 1536 and its last 1280 hidden columns. -/
def last2 (h m : Fin 1024 → EReal) (a : Fin 1536 → EReal) (a' : Fin 1280 → EReal) (w : Fin 1536 → Fin 1024 → EReal) (w' : Fin 1280 → Fin 1024 → EReal)
    (j : Fin 1024) : EReal := h j + m j * (∑ n, a n * w n j + ∑ n, a' n * w' n j)

section
variable (h : FVec Ideal S256x1024 .f32) (a : FVec Ideal S256x1536 .bf16) (a' : FVec Ideal S256x1280 .bf16) (d : FVec Ideal S1x1536x1024 .bf16)
  (d' : FVec Ideal S1x1280x1024 .bf16) (g : FVec Ideal S1x1024 .f32)

theorem out1_at : k0_pay1 (F := Ideal) (k0_pay17 h (k0_pay9 (F := Ideal)) a a' d d' m) (k0_pay18 g) (ix2 r j)
    = norm (last2 (fun j => h (ix2 r j)) (fun j => m (ix3 0 0 j)) (fun n => a (ix2 r n)) (fun n => a' (ix2 r n)) (fun n j => d (ix3 0 n j)) (fun n j => d' (ix3 0 n j)))
        (fun j => g (ix2 0 j)) j := by
  pointwise [k0_pay1, k0_pay17, k0_pay9, k0_pay18]
  rfl
theorem out2_at : k0_pay2 (F := Ideal) h (k0_pay11 (F := Ideal)) a a' d d' m g (ix2 r j)
    = norm (last2 (fun j => h (ix2 r j)) (fun j => m (ix3 0 0 j)) (fun n => a (ix2 r n)) (fun n => a' (ix2 r n)) (fun n j => d (ix3 0 n j)) (fun n j => d' (ix3 0 n j)))
        (fun j => g (ix2 0 j)) j := by
  pointwise [k0_pay2, k0_pay11]
  rfl
end

end

end Cert.Kernel2Ideal.Ffn

end
-- ==== Proof.Out.Block.lean ====
module

public import proofs.«01_k».proof.Proof.Out.Tile

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem
open Cert.Ffn

/-! ## The block of one grid point, entry by entry -/

/-- The hidden columns in one sum. -/
theorem last_split (h m : Fin 1024 → EReal) (a : Fin 2816 → EReal) (w : Fin 2816 → Fin 1024 → EReal) (j : Fin 1024) :
    last2 h m (fun n => a ⟨n.val, by omega⟩) (fun n => a ⟨1536 + n.val, by omega⟩) (fun n => w ⟨n.val, by omega⟩) (fun n => w ⟨1536 + n.val, by omega⟩) j
      = last h m a w j := by
  unfold last2 last
  have e := Fin.sum_univ_add (a := 1536) (b := 1280) (fun n => a n * w n j)
  rw [show (∑ n : Fin 2816, a n * w n j) = _ from e]
  rfl

/-! A tile from what its loads read: its rows are the result's. -/

section
variable (X : FVec Ideal S256x1024 .f32) (O : FVec Ideal S256x1024 .bf16) (M2 M3 M4 M5 : FVec Ideal S1x1x1024 .f32) (G FG : FVec Ideal S1x1024 .f32)
  (W : FVec Ideal S1024x1024 .bf16) (U0 V0 : FVec Ideal S1x1024x1536 .bf16) (U1 V1 : FVec Ideal S1x1024x1280 .bf16)
  (D0 : FVec Ideal S1x1536x1024 .bf16) (D1 : FVec Ideal S1x1280x1024 .bf16)
  (x o m2 m3 m4 m5 g fg : Fin 1024 → EReal) (wo : Fin 1024 → Fin 1024 → EReal) (wi : Fin 1024 → Fin 5632 → EReal) (wd : Fin 2816 → Fin 1024 → EReal)
  (r : Fin 256)
  (hX : ∀ j, X (ix2 r j) = x j) (hO : ∀ j, O (ix2 r j) = o j) (hM2 : ∀ j, M2 (ix3 0 0 j) = m2 j) (hM3 : ∀ j, M3 (ix3 0 0 j) = m3 j)
  (hM4 : ∀ j, M4 (ix3 0 0 j) = m4 j) (hM5 : ∀ j, M5 (ix3 0 0 j) = m5 j) (hG : ∀ j, G (ix2 0 j) = g j) (hFG : ∀ j, FG (ix2 0 j) = fg j)
  (hW : ∀ k j, W (ix2 k j) = wo k j) (hU0 : ∀ k (n : Fin 1536), U0 (ix3 0 k n) = wi k (lo ⟨n.val, by omega⟩))
  (hV0 : ∀ k (n : Fin 1536), V0 (ix3 0 k n) = wi k (hi ⟨n.val, by omega⟩)) (hU1 : ∀ k (n : Fin 1280), U1 (ix3 0 k n) = wi k (lo ⟨1536 + n.val, by omega⟩))
  (hV1 : ∀ k (n : Fin 1280), V1 (ix3 0 k n) = wi k (hi ⟨1536 + n.val, by omega⟩)) (hD0 : ∀ (n : Fin 1536) j, D0 (ix3 0 n j) = wd ⟨n.val, by omega⟩ j)
  (hD1 : ∀ (n : Fin 1280) j, D1 (ix3 0 n j) = wd ⟨1536 + n.val, by omega⟩ j) (j : Fin 1024)
include hX hO hM2 hM3 hM4 hM5 hG hFG hW hU0 hV0 hU1 hV1 hD0 hD1

theorem tileA_row : k0_pay1 (F := Ideal) (k0_pay17 (k0_pay3 X M2 O W) (k0_pay9 (F := Ideal))
      (k0_pay13 (k0_pay8 (k0_pay3 X M2 O W) G (k0_pay5 M3) (k0_pay6 M4) (k0_pay7 X M2 O W) (Scalar.ofBits .f32 0x358637BD#32)) (k0_pay12 U0) V0)
      (k0_pay15 (k0_pay8 (k0_pay3 X M2 O W) G (k0_pay5 M3) (k0_pay6 M4) (k0_pay7 X M2 O W) (Scalar.ofBits .f32 0x358637BD#32)) U1 V1) D0 D1 M5)
      (k0_pay18 FG) (ix2 r j)
    = row x o m2 m3 m4 m5 g fg wo wi wd j := by
  rw [out1_at]
  simp only [act13_at, act15_at, mod8_at, mid3_at, hX, hO, hM2, hM3, hM4, hM5, hG, hFG, hW, hU0, hV0, hU1, hV1, hD0, hD1]
  unfold row
  refine congrArg (fun h => norm h fg j) (funext fun j => ?_)
  rw [← last_split]
  rfl
theorem tileB_row : k0_pay2 (F := Ideal) (k0_pay4 X M2 O W) (k0_pay11 (F := Ideal))
      (k0_pay14 (k0_pay10 (k0_pay4 X M2 O W) G M3 M4) U0 V0) (k0_pay16 (k0_pay10 (k0_pay4 X M2 O W) G M3 M4) U1 V1) D0 D1 M5 FG (ix2 r j)
    = row x o m2 m3 m4 m5 g fg wo wi wd j := by
  rw [out2_at]
  simp only [act14_at, act16_at, mod10_at, mid4_at, hX, hO, hM2, hM3, hM4, hM5, hG, hFG, hW, hU0, hV0, hU1, hV1, hD0, hD1]
  unfold row
  refine congrArg (fun h => norm h fg j) (funext fun j => ?_)
  rw [← last_split]
  rfl
end

/-- Row `r` of the first and of the second tile of a block. -/
def rowA (r : Fin 256) : Fin 512 := ⟨r.val, by omega⟩
def rowB (r : Fin 256) : Fin 512 := ⟨256 + r.val, by omega⟩

section
variable (x0 : FVec Ideal S512x1024 .f32) (x1 : FVec Ideal S512x1024 .bf16) (x2 : FVec Ideal S1024x1024 .bf16) (x3 : FVec Ideal S1x6x1024 .f32)
  (x4 : FVec Ideal S1x1024 .f32) (x5 : FVec Ideal S1x1024x5632 .bf16) (x6 : FVec Ideal S1x2816x1024 .bf16) (x7 : FVec Ideal S1x1024 .f32)
  (r : Fin 256) (j k : Fin 1024)

theorem ld_xA : View.ld (Val := Elt Ideal) (e' := .f32) x0 r0_0 (ix2 r j) = x0 (ix2 (rowA r) j) := by
  pointwise
  rfl
theorem ld_xB : View.ld (Val := Elt Ideal) (e' := .f32) x0 r0_3 (ix2 r j) = x0 (ix2 (rowB r) j) := by
  pointwise
  rfl
theorem ld_oA : View.ld (Val := Elt Ideal) (e' := .bf16) x1 r0_0 (ix2 r j) = x1 (ix2 (rowA r) j) := by
  pointwise
  rfl
theorem ld_oB : View.ld (Val := Elt Ideal) (e' := .bf16) x1 r0_3 (ix2 r j) = x1 (ix2 (rowB r) j) := by
  pointwise
  rfl
theorem ld_w : View.ld (Val := Elt Ideal) (e' := .bf16) x2 r0_2 (ix2 k j) = x2 (ix2 k j) := by
  pointwise
theorem ld_m2 : View.ld (Val := Elt Ideal) (e' := .f32) x3 r0_1 (ix3 0 0 j) = x3 (ix3 0 2 j) := by
  pointwise
theorem ld_m3 : View.ld (Val := Elt Ideal) (e' := .f32) x3 r0_5 (ix3 0 0 j) = x3 (ix3 0 3 j) := by
  pointwise
theorem ld_m4 : View.ld (Val := Elt Ideal) (e' := .f32) x3 r0_6 (ix3 0 0 j) = x3 (ix3 0 4 j) := by
  pointwise
theorem ld_m5 : View.ld (Val := Elt Ideal) (e' := .f32) x3 r0_13 (ix3 0 0 j) = x3 (ix3 0 5 j) := by
  pointwise
theorem ld_g : View.ld (Val := Elt Ideal) (e' := .f32) x4 r0_4 (ix2 0 j) = x4 (ix2 0 j) := by
  pointwise
theorem ld_u0 (n : Fin 1536) : View.ld (Val := Elt Ideal) (e' := .bf16) x5 r0_7 (ix3 0 k n) = x5 (ix3 0 k (lo ⟨n.val, by omega⟩)) := by
  pointwise
  rfl
theorem ld_v0 (n : Fin 1536) : View.ld (Val := Elt Ideal) (e' := .bf16) x5 r0_8 (ix3 0 k n) = x5 (ix3 0 k (hi ⟨n.val, by omega⟩)) := by
  pointwise
  rfl
theorem ld_u1 (n : Fin 1280) : View.ld (Val := Elt Ideal) (e' := .bf16) x5 r0_9 (ix3 0 k n) = x5 (ix3 0 k (lo ⟨1536 + n.val, by omega⟩)) := by
  pointwise
  rfl
theorem ld_v1 (n : Fin 1280) : View.ld (Val := Elt Ideal) (e' := .bf16) x5 r0_10 (ix3 0 k n) = x5 (ix3 0 k (hi ⟨1536 + n.val, by omega⟩)) := by
  pointwise
  congr 2
  apply Fin.ext
  show 4352 + n.val = 2816 + (1536 + n.val)
  omega
theorem ld_d0 (n : Fin 1536) : View.ld (Val := Elt Ideal) (e' := .bf16) x6 r0_11 (ix3 0 n j) = x6 (ix3 0 ⟨n.val, by omega⟩ j) := by
  pointwise
theorem ld_d1 (n : Fin 1280) : View.ld (Val := Elt Ideal) (e' := .bf16) x6 r0_12 (ix3 0 n j) = x6 (ix3 0 ⟨1536 + n.val, by omega⟩ j) := by
  pointwise

/-- The result's row at row `ρ` of the block. -/
def rowOf (ρ : Fin 512) : Fin 1024 → EReal :=
  row (fun j => x0 (ix2 ρ j)) (fun k => x1 (ix2 ρ k)) (fun j => x3 (ix3 0 2 j)) (fun j => x3 (ix3 0 3 j)) (fun j => x3 (ix3 0 4 j)) (fun j => x3 (ix3 0 5 j))
    (fun j => x4 (ix2 0 j)) (fun j => x7 (ix2 0 j)) (fun k j => x2 (ix2 k j)) (fun k n => x5 (ix3 0 k n)) (fun n j => x6 (ix3 0 n j))

theorem tileA_at : k0_pay1 (F := Ideal) (k0_pay17 (k0_pay19 x0 x1 x2 x3 x4 x5 x6 x7) (k0_pay9 (F := Ideal))
      (k0_pay13 (k0_pay21 x0 x1 x2 x3 x4 x5 x6 x7) (k0_pay12 (View.ld x5 r0_7)) (View.ld x5 r0_8))
      (k0_pay15 (k0_pay21 x0 x1 x2 x3 x4 x5 x6 x7) (View.ld x5 r0_9) (View.ld x5 r0_10)) (View.ld x6 r0_11) (View.ld x6 r0_12) (View.ld x3 r0_13))
      (k0_pay18 (View.ld x7 r0_4)) (ix2 r j)
    = rowOf x0 x1 x2 x3 x4 x5 x6 x7 (rowA r) j :=
  tileA_row _ _ _ _ _ _ _ _ _ _ _ _ _ _ _ _ _ _ _ _ _ _ _ _ _ _ r (ld_xA x0 r) (ld_oA x1 r) (ld_m2 x3) (ld_m3 x3) (ld_m4 x3) (ld_m5 x3) (ld_g x4) (ld_g x7)
    (fun k j => ld_w x2 j k) (fun k n => ld_u0 x5 k n) (fun k n => ld_v0 x5 k n) (fun k n => ld_u1 x5 k n) (fun k n => ld_v1 x5 k n)
    (fun n j => ld_d0 x6 j n) (fun n j => ld_d1 x6 j n) j
theorem tileB_at : k0_pay2 (F := Ideal) (k0_pay20 x0 x1 x2 x3 x4 x5 x6 x7) (k0_pay11 (F := Ideal))
      (k0_pay14 (k0_pay22 x0 x1 x2 x3 x4 x5 x6 x7) (View.ld x5 r0_7) (View.ld x5 r0_8))
      (k0_pay16 (k0_pay22 x0 x1 x2 x3 x4 x5 x6 x7) (View.ld x5 r0_9) (View.ld x5 r0_10)) (View.ld x6 r0_11) (View.ld x6 r0_12) (View.ld x3 r0_13)
      (View.ld x7 r0_4) (ix2 r j)
    = rowOf x0 x1 x2 x3 x4 x5 x6 x7 (rowB r) j :=
  tileB_row _ _ _ _ _ _ _ _ _ _ _ _ _ _ _ _ _ _ _ _ _ _ _ _ _ _ r (ld_xB x0 r) (ld_oB x1 r) (ld_m2 x3) (ld_m3 x3) (ld_m4 x3) (ld_m5 x3) (ld_g x4) (ld_g x7)
    (fun k j => ld_w x2 j k) (fun k n => ld_u0 x5 k n) (fun k n => ld_v0 x5 k n) (fun k n => ld_u1 x5 k n) (fun k n => ld_v1 x5 k n)
    (fun n j => ld_d0 x6 j n) (fun n j => ld_d1 x6 j n) j

theorem emb_A : r0_0.emb (ix2 r j) = ix2 (rowA r) j := by
  funext a
  apply Fin.ext
  match a with
  | ⟨0, _⟩ => show 0 + 1 * r.val = r.val; omega
  | ⟨1, _⟩ => show 0 + 1 * j.val = j.val; omega
theorem emb_B : r0_3.emb (ix2 r j) = ix2 (rowB r) j := by
  funext a
  apply Fin.ext
  match a with
  | ⟨0, _⟩ => show 256 + 1 * r.val = 256 + r.val; omega
  | ⟨1, _⟩ => show 0 + 1 * j.val = j.val; omega

theorem not_mem_B : ix2 (rowA r) j ∉ r0_3.set := by
  rw [Rect.mem_set_unit]
  intro hm
  have h : 256 ≤ r.val := (hm 0).1
  have hr := r.isLt
  omega

theorem canon_A (pA pB : Vec Ideal S256x1024 .f32) :
    View.canon (Val := Elt Ideal) (s := S512x1024) (e := .f32) [⟨r0_3, pB⟩, ⟨r0_0, pA⟩] (ix2 (rowA r) j) = pA (ix2 r j) := by
  refine (View.canon_cons_of_not_mem (Val := Elt Ideal) ⟨r0_3, pB⟩ [⟨r0_0, pA⟩] (not_mem_B r j)).trans ?_
  exact (congrArg _ (emb_A r j).symm).trans (View.canon_cons_emb (Val := Elt Ideal) (e := .f32) r0_0 pA [] (ix2 r j))
theorem canon_B (pA pB : Vec Ideal S256x1024 .f32) :
    View.canon (Val := Elt Ideal) (s := S512x1024) (e := .f32) [⟨r0_3, pB⟩, ⟨r0_0, pA⟩] (ix2 (rowB r) j) = pB (ix2 r j) :=
  (congrArg _ (emb_B r j).symm).trans (View.canon_cons_emb (Val := Elt Ideal) (e := .f32) r0_3 pB [⟨r0_0, pA⟩] (ix2 r j))

/-- What a grid point writes at an entry of its block. -/
theorem block_at (ρ : Fin 512) : out0_8 (F := Ideal) x0 x1 x2 x3 x4 x5 x6 x7 (ix2 ρ j) = rowOf x0 x1 x2 x3 x4 x5 x6 x7 ρ j := by
  unfold out0_8
  by_cases h : ρ.val < 256
  · obtain ⟨r, rfl⟩ : ∃ r, ρ = rowA r := ⟨⟨ρ.val, h⟩, rfl⟩
    exact (canon_A r j _ _).trans (tileA_at x0 x1 x2 x3 x4 x5 x6 x7 r j)
  · have hr : ρ.val - 256 < 256 := by omega
    obtain ⟨r, rfl⟩ : ∃ r, ρ = rowB r := ⟨⟨ρ.val - 256, hr⟩, Fin.ext (by show ρ.val = 256 + (ρ.val - 256); omega)⟩
    exact (canon_B r j _ _).trans (tileB_at x0 x1 x2 x3 x4 x5 x6 x7 r j)

end

end Cert.Kernel2Ideal.Ffn

end
-- ==== Proof.Out.Value.lean ====
module

public import proofs.«01_k».proof.Proof.Out.Block

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem
open Cert.Ffn

/-! ## The result's array -/

variable (m : (ℓ : Loc nD τ sig) → Buf (Elt Ideal) ℓ) (ρ : Dev nD → PrngReg) (c : Dev nD)

/-- The eight operands. -/
abbrev aX : FVec Ideal S17408x1024 .f32 := m ((c : Thread nD τ).loc main_arg0)
abbrev aO : FVec Ideal S16384x1024 .bf16 := m ((c : Thread nD τ).loc main_arg1)
abbrev aWo : FVec Ideal S1024x1024 .bf16 := m ((c : Thread nD τ).loc main_arg2)
abbrev aMods : FVec Ideal S8x6x1024 .f32 := m ((c : Thread nD τ).loc main_arg3)
abbrev aG : FVec Ideal S1x1024 .f32 := m ((c : Thread nD τ).loc main_arg4)
abbrev aWi : FVec Ideal S2x1024x5632 .bf16 := m ((c : Thread nD τ).loc main_arg5)
abbrev aWd : FVec Ideal S2x2816x1024 .bf16 := m ((c : Thread nD τ).loc main_arg6)
abbrev aFg : FVec Ideal S1x1024 .f32 := m ((c : Thread nD τ).loc main_arg7)

theorem lt32 (t : Fin cfg0.N) : t.val < 32 := lt_of_lt_of_eq t.isLt N_0

theorem idx0 : ∀ t : Fin cfg0.N, win0_0.index t 0 = t.val + 2 ∧ win0_0.index t 1 = 0 :=
  (by decide +kernel : ∀ t : Fin grid0.N, win0_0.index t 0 = t.val + 2 ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 1 ∧ win0_5.index t 1 = 0 ∧ win0_5.index t 2 = 0 :=
  (by decide +kernel : ∀ t : Fin grid0.N, win0_5.index t 0 = 1 ∧ win0_5.index t 1 = 0 ∧ win0_5.index t 2 = 0)
theorem idx6 : ∀ t : Fin cfg0.N, win0_6.index t 0 = 1 ∧ win0_6.index t 1 = 0 ∧ win0_6.index t 2 = 0 :=
  (by decide +kernel : ∀ t : Fin grid0.N, win0_6.index t 0 = 1 ∧ win0_6.index t 1 = 0 ∧ win0_6.index t 2 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)

/-- Point `t` reads rows `512 t` to `512 t + 511` of the inputs, the context's 1024 skipped, -/
theorem blk0_at (t : Fin cfg0.N) (ρ : Fin 512) (j : Fin 1024) :
    (iblk m c 0 t : FVec Ideal S512x1024 .f32) (ix2 ρ j) = aX m c (ix2 ⟨1024 + (512 * t.val + ρ.val), by have := lt32 t; omega⟩ j) := by
  obtain ⟨h0, h1⟩ := idx0 t
  unfold iblk
  rw [View.read_apply]
  show V m c main_arg0 _ = m (c.tc.loc main_arg0) _
  unfold V
  congr 1
  funext a
  apply Fin.ext
  match a with
  | ⟨0, _⟩ => show win0_0.index t 0 * 512 + 1 * ρ.val = 1024 + (512 * t.val + ρ.val); rw [h0]; omega
  | ⟨1, _⟩ => show win0_0.index t 1 * 1024 + 1 * j.val = j.val; rw [h1]; omega
theorem blk1_at (t : Fin cfg0.N) (ρ : Fin 512) (j : Fin 1024) :
    (iblk m c 1 t : FVec Ideal S512x1024 .bf16) (ix2 ρ j) = aO m c (ix2 ⟨512 * t.val + ρ.val, by have := lt32 t; omega⟩ j) := by
  obtain ⟨h0, h1⟩ := idx1 t
  unfold iblk
  rw [View.read_apply]
  show V m c main_arg1 _ = m (c.tc.loc main_arg1) _
  unfold V
  congr 1
  funext a
  apply Fin.ext
  match a with
  | ⟨0, _⟩ => show win0_1.index t 0 * 512 + 1 * ρ.val = 512 * t.val + ρ.val; rw [h0]; omega
  | ⟨1, _⟩ => show win0_1.index t 1 * 1024 + 1 * j.val = j.val; rw [h1]; omega
/-- the whole of the projection, its batch's modulation rows, and the second layer of each weight. -/
theorem blk2_at (t : Fin cfg0.N) (k j : Fin 1024) :
    (iblk m c 2 t : FVec Ideal S1024x1024 .bf16) (ix2 k j) = aWo m c (ix2 k j) := by
  obtain ⟨h0, h1⟩ := idx2 t
  unfold iblk
  rw [View.read_apply]
  show V m c main_arg2 _ = m (c.tc.loc main_arg2) _
  unfold V
  congr 1
  funext a
  apply Fin.ext
  match a with
  | ⟨0, _⟩ => show win0_2.index t 0 * 1024 + 1 * k.val = k.val; rw [h0]; omega
  | ⟨1, _⟩ => show win0_2.index t 1 * 1024 + 1 * j.val = j.val; rw [h1]; omega
theorem blk3_at (t : Fin cfg0.N) (q : Fin 6) (j : Fin 1024) :
    (iblk m c 3 t : FVec Ideal S1x6x1024 .f32) (ix3 0 q j) = aMods m c (ix3 ⟨t.val / 8, by have := lt32 t; omega⟩ q j) := by
  obtain ⟨h0, h1, h2⟩ := idx3 t
  unfold iblk
  rw [View.read_apply]
  show V m c main_arg3 _ = m (c.tc.loc main_arg3) _
  unfold V
  congr 1
  funext a
  apply Fin.ext
  match a with
  | ⟨0, _⟩ => show win0_3.index t 0 * 1 + 1 * (0 : Fin 1).val = t.val / 8; rw [h0]; omega
  | ⟨1, _⟩ => show win0_3.index t 1 * 6 + 1 * q.val = q.val; rw [h1]; omega
  | ⟨2, _⟩ => show win0_3.index t 2 * 1024 + 1 * j.val = j.val; rw [h2]; omega
theorem blk4_at (t : Fin cfg0.N) (j : Fin 1024) :
    (iblk m c 4 t : FVec Ideal S1x1024 .f32) (ix2 0 j) = aG m c (ix2 0 j) := by
  obtain ⟨h0, h1⟩ := idx4 t
  unfold iblk
  rw [View.read_apply]
  show V m c main_arg4 _ = m (c.tc.loc main_arg4) _
  unfold V
  congr 1
  funext a
  apply Fin.ext
  match a with
  | ⟨0, _⟩ => show win0_4.index t 0 * 1 + 1 * (0 : Fin 1).val = 0; rw [h0]; omega
  | ⟨1, _⟩ => show win0_4.index t 1 * 1024 + 1 * j.val = j.val; rw [h1]; omega
theorem blk5_at (t : Fin cfg0.N) (k : Fin 1024) (n : Fin 5632) :
    (iblk m c 5 t : FVec Ideal S1x1024x5632 .bf16) (ix3 0 k n) = aWi m c (ix3 1 k n) := by
  obtain ⟨h0, h1, h2⟩ := idx5 t
  unfold iblk
  rw [View.read_apply]
  show V m c main_arg5 _ = m (c.tc.loc main_arg5) _
  unfold V
  congr 1
  funext a
  apply Fin.ext
  match a with
  | ⟨0, _⟩ => show win0_5.index t 0 * 1 + 1 * (0 : Fin 1).val = 1; rw [h0]; omega
  | ⟨1, _⟩ => show win0_5.index t 1 * 1024 + 1 * k.val = k.val; rw [h1]; omega
  | ⟨2, _⟩ => show win0_5.index t 2 * 5632 + 1 * n.val = n.val; rw [h2]; omega
theorem blk6_at (t : Fin cfg0.N) (n : Fin 2816) (j : Fin 1024) :
    (iblk m c 6 t : FVec Ideal S1x2816x1024 .bf16) (ix3 0 n j) = aWd m c (ix3 1 n j) := by
  obtain ⟨h0, h1, h2⟩ := idx6 t
  unfold iblk
  rw [View.read_apply]
  show V m c main_arg6 _ = m (c.tc.loc main_arg6) _
  unfold V
  congr 1
  funext a
  apply Fin.ext
  match a with
  | ⟨0, _⟩ => show win0_6.index t 0 * 1 + 1 * (0 : Fin 1).val = 1; rw [h0]; omega
  | ⟨1, _⟩ => show win0_6.index t 1 * 2816 + 1 * n.val = n.val; rw [h1]; omega
  | ⟨2, _⟩ => show win0_6.index t 2 * 1024 + 1 * j.val = j.val; rw [h2]; omega
theorem blk7_at (t : Fin cfg0.N) (j : Fin 1024) :
    (iblk m c 7 t : FVec Ideal S1x1024 .f32) (ix2 0 j) = aFg m c (ix2 0 j) := by
  obtain ⟨h0, h1⟩ := idx7 t
  unfold iblk
  rw [View.read_apply]
  show V m c main_arg7 _ = m (c.tc.loc main_arg7) _
  unfold V
  congr 1
  funext a
  apply Fin.ext
  match a with
  | ⟨0, _⟩ => show win0_7.index t 0 * 1 + 1 * (0 : Fin 1).val = 0; rw [h0]; omega
  | ⟨1, _⟩ => show win0_7.index t 1 * 1024 + 1 * j.val = j.val; rw [h1]; omega

/-- The result's entry at row `R`: the row's block and its place there. -/
def ptOf (R : Fin 16384) : Fin cfg0.N := ⟨R.val / 512, by
  have hN : cfg0.N = 32 := N_0
  omega⟩
def inOf (R : Fin 16384) : Fin 512 := ⟨R.val % 512, by omega⟩
/-- The block a grid point writes. -/
@[irreducible] def blkOut (t : Fin cfg0.N) : FVec Ideal S512x1024 .f32 :=
  out0_8 (F := Ideal) (iblk m c 0 t) (iblk m c 1 t) (iblk m c 2 t) (iblk m c 3 t) (iblk m c 4 t) (iblk m c 5 t) (iblk m c 6 t) (iblk m c 7 t)
def res : Buf (Elt Ideal) ((c : Thread nD τ).loc main_v0) := fun i =>
  blkOut m c (ptOf (i 0)) (ix2 (inOf (i 0)) (i 1))

theorem flushed_out (t : Fin cfg0.N) : (dats m 0 c).flushed 8 t = (cfg0.win 8).cut (grid0.coords t) (blkOut m c t) := by
  unfold blkOut
  exact Value.flushed8 m c t

theorem flushed_eq (t : Fin cfg0.N) : (dats m 0 c).flushed 8 t = (win0_8.blk t).view.read (Elt Ideal) (res m c) := by
  rw [flushed_out]
  obtain ⟨h0, h1⟩ := idx8 t
  have ht := lt32 t
  funext y
  have y0 : (y 0).val < 512 := (y 0).isLt
  have y1 : (y 1).val < 1024 := (y 1).isLt
  have key : ∀ i : S16384x1024.Idx, (i 0).val = 512 * t.val + (y 0).val → (i 1).val = (y 1).val →
      blkOut m c t y = res m c i := by
    intro i e0 e1
    unfold res
    have ep : ptOf (i 0) = t := Fin.ext (by show (i 0).val / 512 = t.val; omega)
    rw [ep]
    refine congrArg (blkOut m c t) ?_
    funext a
    apply Fin.ext
    match a with
    | ⟨0, _⟩ => show (y 0).val = (i 0).val % 512; omega
    | ⟨1, _⟩ => show (y 1).val = (i 1).val; omega
  rw [View.read_apply]
  refine key _ ?_ ?_
  · show win0_8.index t 0 * 512 + 1 * (y 0).val = _
    rw [h0]; omega
  · show win0_8.index t 1 * 1024 + 1 * (y 1).val = _
    rw [h1]; omega

theorem mem_blk (t : Fin cfg0.N) (x : S16384x1024.Idx) (h : (x 0).val / 512 = t.val) : x ∈ ((cfg0.win 8).blk t).view.set := by
  show x ∈ ((View.whole main_v0).slice (win0_8.rect t)).set
  rw [View.set_slice_whole, Rect.mem_set_unit]
  obtain ⟨i0, i1⟩ := idx8 t
  have x1 : (x 1).val < 1024 := (x 1).isLt
  intro a
  match a with
  | ⟨0, _⟩ => show win0_8.index t 0 * 512 ≤ (x 0).val ∧ (x 0).val < win0_8.index t 0 * 512 + 512; rw [i0]; omega
  | ⟨1, _⟩ => show win0_8.index t 1 * 1024 ≤ (x 1).val ∧ (x 1).val < win0_8.index t 1 * 1024 + 1024; rw [i1]; omega

theorem final_o : (dats m 0 c).arrAt 8 cfg0.N = res m c :=
  (dats m 0 c).arrAt_eq_of_cover 8 (res m c) (fun t _ => flushed_eq m c t) fun x => ⟨ptOf (x 0), flush0_8 _, mem_blk _ x rfl⟩

/-- The kernel's value at an entry. -/
theorem res_at (R : Fin 16384) (j : Fin 1024) : res m c (ix2 R j)
    = row (fun j => aX m c (ix2 ⟨1024 + R.val, by omega⟩ j)) (fun k => aO m c (ix2 R k)) (fun j => aMods m c (ix3 ⟨R.val / 4096, by omega⟩ 2 j))
        (fun j => aMods m c (ix3 ⟨R.val / 4096, by omega⟩ 3 j)) (fun j => aMods m c (ix3 ⟨R.val / 4096, by omega⟩ 4 j))
        (fun j => aMods m c (ix3 ⟨R.val / 4096, by omega⟩ 5 j)) (fun j => aG m c (ix2 0 j)) (fun j => aFg m c (ix2 0 j))
        (fun k j => aWo m c (ix2 k j)) (fun k n => aWi m c (ix3 1 k n)) (fun n j => aWd m c (ix3 1 n j)) j := by
  have e := block_at (iblk m c 0 (ptOf R)) (iblk m c 1 (ptOf R)) (iblk m c 2 (ptOf R)) (iblk m c 3 (ptOf R)) (iblk m c 4 (ptOf R)) (iblk m c 5 (ptOf R))
    (iblk m c 6 (ptOf R)) (iblk m c 7 (ptOf R)) j (inOf R)
  have e' : res m c (ix2 R j) = blkOut m c (ptOf R) (ix2 (inOf R) j) := rfl
  rw [e']
  unfold blkOut
  refine e.trans ?_
  unfold rowOf
  have hR : 512 * (ptOf R).val + (inOf R).val = R.val := by show 512 * (R.val / 512) + R.val % 512 = R.val; omega
  have hb : (ptOf R).val / 8 = R.val / 4096 := by show R.val / 512 / 8 = R.val / 4096; omega
  have f0 : (fun j => (iblk m c 0 (ptOf R) : FVec Ideal S512x1024 .f32) (ix2 (inOf R) j)) = fun j => aX m c (ix2 ⟨1024 + R.val, by omega⟩ j) :=
    funext fun j => (blk0_at m c _ _ j).trans (congrArg (fun k => aX m c (ix2 k j)) (Fin.ext (by show 1024 + (512 * (ptOf R).val + (inOf R).val) = 1024 + R.val; rw [hR])))
  have f1 : (fun j => (iblk m c 1 (ptOf R) : FVec Ideal S512x1024 .bf16) (ix2 (inOf R) j)) = fun j => aO m c (ix2 R j) :=
    funext fun j => (blk1_at m c _ _ j).trans (congrArg (fun k => aO m c (ix2 k j)) (Fin.ext hR))
  have f2 : (fun k j => (iblk m c 2 (ptOf R) : FVec Ideal S1024x1024 .bf16) (ix2 k j)) = fun k j => aWo m c (ix2 k j) :=
    funext fun k => funext fun j => blk2_at m c _ k j
  have f3 : ∀ a, (fun j => (iblk m c 3 (ptOf R) : FVec Ideal S1x6x1024 .f32) (ix3 0 a j)) = fun j => aMods m c (ix3 ⟨R.val / 4096, by omega⟩ a j) :=
    fun a => funext fun j => (blk3_at m c _ a j).trans (congrArg (fun k => aMods m c (ix3 k a j)) (Fin.ext hb))
  have f4 : (fun j => (iblk m c 4 (ptOf R) : FVec Ideal S1x1024 .f32) (ix2 0 j)) = fun j => aG m c (ix2 0 j) := funext fun j => blk4_at m c _ j
  have f5 : (fun k n => (iblk m c 5 (ptOf R) : FVec Ideal S1x1024x5632 .bf16) (ix3 0 k n)) = fun k n => aWi m c (ix3 1 k n) :=
    funext fun k => funext fun n => blk5_at m c _ k n
  have f6 : (fun n j => (iblk m c 6 (ptOf R) : FVec Ideal S1x2816x1024 .bf16) (ix3 0 n j)) = fun n j => aWd m c (ix3 1 n j) :=
    funext fun n => funext fun j => blk6_at m c _ n j
  have f7 : (fun j => (iblk m c 7 (ptOf R) : FVec Ideal S1x1024 .f32) (ix2 0 j)) = fun j => aFg m c (ix2 0 j) := funext fun j => blk7_at m c _ j
  rw [f0, f1, f2, f3, f3, f3, f3, f4, f5, f6, f7]

end Cert.Kernel2Ideal.Ffn

end
-- ==== Proof.Out.Reference.lean ====
module

public import proofs.«01_k».proof.Proof.Gen.Reference2Ideal.Run
public import proofs.«01_k».proof.Proof.Out.Row
public import Idealize.ShloMosaic.Lib.Quiescent

@[expose] public section

set_option maxRecDepth 16384

noncomputable section

namespace Cert.Reference2Ideal.Ffn

open Cert.Reference2Ideal Cert.Reference2Ideal.Gen
open Idealize.ShloMosaic Idealize.ShloMosaic.TcCoe Idealize.SL.Sem
open Cert.Ffn

variable {F : FTy → Type} [FloatOps F]

/-! ## The reference's stages -/

section
variable (x : FVec F S17408x1024 .f32) (o : FVec F S16384x1024 .bf16) (wo : FVec F S1024x1024 .bf16) (mods : FVec F S8x6x1024 .f32)
  (g : FVec F S1x1024 .f32) (wi : FVec F S2x1024x5632 .bf16) (wd : FVec F S2x2816x1024 .bf16) (fg : FVec F S1x1024 .f32)

/-- The modulation rows of the four batches, -/
def mrows : FVec F S4x6x1x1024 .f32 :=
  broadcastInDim S4x6x1x1024 ![0, 1, 3] bcast_S4x6x1024_S4x6x1x1024_0_1_3 (extractStridedSlice S4x6x1024 ![0, 0, 0] mods slices_S8x6x1024_S4x6x1024_0_0_0)
/-- the four of them that are used, -/
def m2 : FVec F S4x1x1024 .f32 := shapeCast _ (extractStridedSlice S4x1x1x1024 ![0, 2, 0, 0] (mrows mods) slices_S4x6x1x1024_S4x1x1x1024_0_2_0_0) shapeCasts_S4x1x1x1024_S4x1x1024
def m3 : FVec F S4x1x1024 .f32 := shapeCast _ (extractStridedSlice S4x1x1x1024 ![0, 3, 0, 0] (mrows mods) slices_S4x6x1x1024_S4x1x1x1024_0_3_0_0) shapeCasts_S4x1x1x1024_S4x1x1024
def m4 : FVec F S4x1x1024 .f32 := shapeCast _ (extractStridedSlice S4x1x1x1024 ![0, 4, 0, 0] (mrows mods) slices_S4x6x1x1024_S4x1x1x1024_0_4_0_0) shapeCasts_S4x1x1x1024_S4x1x1024
def m5 : FVec F S4x1x1024 .f32 := shapeCast _ (extractStridedSlice S4x1x1x1024 ![0, 5, 0, 0] (mrows mods) slices_S4x6x1x1024_S4x1x1x1024_0_5_0_0) shapeCasts_S4x1x1x1024_S4x1x1024
/-- one of them repeated for every row of its batch, -/
def rep (v : FVec F S4x1x1024 .f32) : FVec F S4x4096x1024 .f32 := broadcastInDim S4x4096x1024 ![0, 1, 2] bcast_S4x1x1024_S4x4096x1024_0_1_2 v
/-- the rows of the input after the context, -/
def rows : FVec F S4x4096x1024 .f32 := shapeCast _ (extractStridedSlice S16384x1024 ![1024, 0] x slices_S17408x1024_S16384x1024_1024_0) shapeCasts_S16384x1024_S4x4096x1024
/-- with the gated projection added, -/
def midV : FVec F S4x4096x1024 .f32 :=
  addf (rows x) (mulf (rep (m2 mods)) (Host.dotGeneral dot_S4x4096x1024_S1024x1024_S4x4096x1024_2_0_01_1_n_n none
    (shapeCast _ (extf .f32 o bitsLt_bf16_f32) shapeCasts_S16384x1024_S4x4096x1024) (extf .f32 wo bitsLt_bf16_f32)))
/-- a row normalised, -/
def normV (h : FVec F S4x4096x1024 .f32) (g : FVec F S1x1024 .f32) : FVec F S4x4096x1024 .f32 :=
  mulf (mulf h (broadcastInDim S4x4096x1024 ![0, 1, 2] bcast_S4x4096x1_S4x4096x1024_0_1_2 (Host.rsqrt (addf
      (Host.divf (broadcastInDim S4x4096x1 ![0, 1] bcast_S4x4096_S4x4096x1_0_1 (Host.reduceAdd (mulf h h) (constant S_ .f32 0x00000000#32) reducesTo_S4x4096x1024_S4x4096_d2 h_S_))
        (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 (shapeCast _ g shapeCasts_S1x1024_S1024)))
/-- scaled and shifted, -/
def modV (h : FVec F S4x4096x1024 .f32) : FVec F S4x4096x1024 .f32 :=
  addf (mulf (normV h g) (rep (addf (broadcastInDim S4x1x1024 ![] bcast_S_S4x1x1024 (constant S_ .f32 0x3F800000#32)) (m4 mods)))) (rep (m3 mods))
/-- the hidden columns before the gate, -/
def linV (y : FVec F S4x4096x1024 .f32) : FVec F S4x4096x5632 .f32 :=
  Host.dotGeneral dot_S4x4096x1024_S1024x5632_S4x4096x5632_2_0_01_1_n_n none y
    (extf .f32 (shapeCast S1024x5632 (extractStridedSlice S1x1024x5632 ![1, 0, 0] wi slices_S2x1024x5632_S1x1024x5632_1_0_0) shapeCasts_S1x1024x5632_S1024x5632) bitsLt_bf16_f32)
/-- the gate, twice its half, -/
def gateV (u : FVec F S4x4096x5632 .f32) : FVec F S4x4096x2816 .f32 :=
  mulf (broadcastInDim S4x4096x2816 ![] bcast_S_S4x4096x2816 (constant S_ .f32 0x40000000#32)) (extractStridedSlice S4x4096x2816 ![0, 0, 0] u slices_S4x4096x5632_S4x4096x2816_0_0_0)
/-- times its logistic function, -/
def siluV (z : FVec F S4x4096x2816 .f32) : FVec F S4x4096x2816 .f32 :=
  mulf z (Host.divf (broadcastInDim S4x4096x2816 ![] bcast_S_S4x4096x2816 (constant S_ .f32 0x3F800000#32))
    (addf (broadcastInDim S4x4096x2816 ![] bcast_S_S4x4096x2816 (constant S_ .f32 0x3F800000#32)) (Host.exp (Host.negf z))))
/-- the hidden columns, -/
def actV (u : FVec F S4x4096x5632 .f32) : FVec F S4x4096x2816 .f32 :=
  mulf (siluV (gateV u)) (extractStridedSlice S4x4096x2816 ![0, 0, 2816] u slices_S4x4096x5632_S4x4096x2816_0_0_2816)
/-- a row plus the gated product of its hidden columns, -/
def lastV (h : FVec F S4x4096x1024 .f32) (a : FVec F S4x4096x2816 .f32) : FVec F S4x4096x1024 .f32 :=
  addf h (mulf (rep (m5 mods)) (Host.dotGeneral dot_S4x4096x2816_S2816x1024_S4x4096x1024_2_0_01_1_n_n none a
    (extf .f32 (shapeCast S2816x1024 (extractStridedSlice S1x2816x1024 ![1, 0, 0] wd slices_S2x2816x1024_S1x2816x1024_1_0_0) shapeCasts_S1x2816x1024_S2816x1024) bitsLt_bf16_f32)))
/-- and the result. -/
def out : FVec F S16384x1024 .f32 :=
  shapeCast _ (normV (lastV mods wd (midV x o wo mods) (actV (linV wi (modV mods g (midV x o wo mods))))) fg) shapeCasts_S4x4096x1024_S16384x1024

end

theorem res_eq (m : (ℓ : Loc nD τ sig) → Buf (Elt F) ℓ) (c : Dev nD) :
    Value.res_main_v70 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold Value.res_main_v70
  rfl

/-- The reference ends with its value in the result, its arguments unchanged and its counters at zero. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v70) = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => ⟨(h c).1.trans (res_eq m c), (h c).2⟩, sem_eq_zero_of_no_sems (by decide) _⟩) (Value.run m ρ)

/-! ## The stages at an entry, over the extended reals -/

/-- Row `r` of batch `b` among the rows of all batches, and among the input's, the context's 1024 first. -/
def flat (b : Fin 4) (r : Fin 4096) : Fin 16384 := ⟨b.val * 4096 + r.val, by omega⟩
def after (b : Fin 4) (r : Fin 4096) : Fin 17408 := ⟨1024 + (b.val * 4096 + r.val), by omega⟩
def batch (b : Fin 4) : Fin 8 := ⟨b.val, by omega⟩

section
variable (x : FVec Ideal S17408x1024 .f32) (o : FVec Ideal S16384x1024 .bf16) (wo : FVec Ideal S1024x1024 .bf16) (mods : FVec Ideal S8x6x1024 .f32)
  (g : FVec Ideal S1x1024 .f32) (wi : FVec Ideal S2x1024x5632 .bf16) (wd : FVec Ideal S2x2816x1024 .bf16) (fg : FVec Ideal S1x1024 .f32)
  (b : Fin 4) (r : Fin 4096) (j : Fin 1024)

theorem m2_at : rep (m2 (F := Ideal) mods) (ix3 b r j) = mods (ix3 (batch b) 2 j) := by
  pointwise [rep, m2, mrows]
  rfl
theorem m3_at : rep (m3 (F := Ideal) mods) (ix3 b r j) = mods (ix3 (batch b) 3 j) := by
  pointwise [rep, m3, mrows]
  rfl
theorem m4_at : rep (addf (broadcastInDim S4x1x1024 ![] bcast_S_S4x1x1024 (constant S_ .f32 0x3F800000#32)) (m4 (F := Ideal) mods)) (ix3 b r j)
    = 1 + mods (ix3 (batch b) 4 j) := by
  pointwise [rep, m4, mrows]
  rfl
theorem m5_at : rep (m5 (F := Ideal) mods) (ix3 b r j) = mods (ix3 (batch b) 5 j) := by
  pointwise [rep, m5, mrows]
  rfl
theorem rows_at : rows (F := Ideal) x (ix3 b r j) = x (ix2 (after b r) j) := by
  pointwise [rows]
  rfl
theorem mid_at : midV (F := Ideal) x o wo mods (ix3 b r j)
    = mid (fun j => x (ix2 (after b r) j)) (fun j => mods (ix3 (batch b) 2 j)) (fun k => o (ix2 (flat b r) k)) (fun k j => wo (ix2 k j)) j := by
  pointwise [midV]
  rw [m2_at, rows_at]
  rfl
theorem norm_at (h : FVec Ideal S4x4096x1024 .f32) : normV (F := Ideal) h g (ix3 b r j) = norm (fun j => h (ix3 b r j)) (fun j => g (ix2 0 j)) j := by
  pointwise [normV]
  rfl
theorem mod_at (h : FVec Ideal S4x4096x1024 .f32) : modV (F := Ideal) mods g h (ix3 b r j)
    = modn (fun j => h (ix3 b r j)) (fun j => g (ix2 0 j)) (fun j => mods (ix3 (batch b) 3 j)) (fun j => mods (ix3 (batch b) 4 j)) j := by
  unfold modV modn
  rw [← norm_at]
  exact congrArg₂ (· + ·) (congrArg (normV (F := Ideal) h g (ix3 b r j) * ·) (m4_at mods b r j)) (m3_at mods b r j)
theorem lin_at (y : FVec Ideal S4x4096x1024 .f32) (n : Fin 5632) :
    linV (F := Ideal) wi y (ix3 b r n) = lin (fun j => y (ix3 b r j)) (fun k n => wi (ix3 1 k n)) n := by
  pointwise [linV]
  rfl
theorem act_at (u : FVec Ideal S4x4096x5632 .f32) (n : Fin 2816) : actV (F := Ideal) u (ix3 b r n)
    = (Ideal.tanh (u (ix3 b r (lo n))) + 1) * u (ix3 b r (lo n)) * u (ix3 b r (hi n)) := by
  rw [← silu_eq]
  pointwise [actV, siluV, gateV]
  rw [two_bits]
  rfl
theorem last_at (h : FVec Ideal S4x4096x1024 .f32) (a : FVec Ideal S4x4096x2816 .f32) : lastV (F := Ideal) mods wd h a (ix3 b r j)
    = last (fun j => h (ix3 b r j)) (fun j => mods (ix3 (batch b) 5 j)) (fun n => a (ix3 b r n)) (fun n j => wd (ix3 1 n j)) j := by
  pointwise [lastV]
  rw [m5_at]
  rfl
theorem out_at (R : Fin 16384) (b : Fin 4) (r : Fin 4096) (hR : R = flat b r) : out (F := Ideal) x o wo mods g wi wd fg (ix2 R j)
    = normV (F := Ideal) (lastV mods wd (midV x o wo mods) (actV (linV wi (modV mods g (midV x o wo mods))))) fg (ix3 b r j) := by
  subst hR
  unfold out
  pointwise
  congr 1
  unfold flat
  congr 1 <;> apply Fin.ext <;> simp <;> omega

/-- The reference's value at an entry. -/
theorem out_val (R : Fin 16384) (b : Fin 4) (r : Fin 4096) (hR : R = flat b r) : out (F := Ideal) x o wo mods g wi wd fg (ix2 R j)
    = row (fun j => x (ix2 (after b r) j)) (fun k => o (ix2 (flat b r) k)) (fun j => mods (ix3 (batch b) 2 j)) (fun j => mods (ix3 (batch b) 3 j))
        (fun j => mods (ix3 (batch b) 4 j)) (fun j => mods (ix3 (batch b) 5 j)) (fun j => g (ix2 0 j)) (fun j => fg (ix2 0 j))
        (fun k j => wo (ix2 k j)) (fun k n => wi (ix3 1 k n)) (fun n j => wd (ix3 1 n j)) j := by
  rw [out_at x o wo mods g wi wd fg j R b r hR, norm_at]
  simp only [last_at, act_at, lin_at, mod_at, mid_at]
  rfl

end

end Cert.Reference2Ideal.Ffn

end
-- ==== Proof.Out.Equal.lean ====
module

public import proofs.«01_k».proof.Proof.Out.Value
public import proofs.«01_k».proof.Proof.Out.Reference

@[expose] public section

set_option maxRecDepth 16384

noncomputable section

namespace Cert.Ffn

open Idealize.ShloMosaic Idealize.ShloMosaic.TcCoe Idealize.SL.Sem
open Cert.Kernel2Ideal.Ffn (res res_at aX aO aWo aMods aG aWi aWd aFg)
open Cert.Reference2Ideal.Ffn (flat out out_val)

/-- The kernel's array and the reference's are one. -/
theorem res_eq_out (m : (ℓ : Loc Cert.Kernel2Ideal.nD Cert.Kernel2Ideal.τ Cert.Kernel2Ideal.sig) → Buf (Elt Ideal) ℓ) (c : Dev Cert.Kernel2Ideal.nD) :
    (res m c : FVec Ideal Cert.Kernel2Ideal.S16384x1024 .f32)
      = out (F := Ideal) (aX m c) (aO m c) (aWo m c) (aMods m c) (aG m c) (aWi m c) (aWd m c) (aFg m c) := by
  funext i
  obtain ⟨R, j, rfl⟩ : ∃ (R : Fin 16384) (j : Fin 1024), i = ix2 R j := by
    refine ⟨i 0, i 1, funext fun a => ?_⟩
    match a with
    | ⟨0, _⟩ => rfl
    | ⟨1, _⟩ => rfl
  have hb : R.val / 4096 < 4 := by omega
  have hr : R.val % 4096 < 4096 := by omega
  obtain ⟨b, eb⟩ : ∃ b : Fin 4, b.val = R.val / 4096 := ⟨⟨_, hb⟩, rfl⟩
  obtain ⟨r, er⟩ : ∃ r : Fin 4096, r.val = R.val % 4096 := ⟨⟨_, hr⟩, rfl⟩
  have hR : R = flat b r := Fin.ext (by show R.val = b.val * 4096 + r.val; omega)
  refine (res_at m c R j).trans (Eq.trans ?_ (out_val _ _ _ _ _ _ _ _ j R b r hR).symm)
  have ea : (⟨1024 + R.val, by omega⟩ : Fin 17408) = Cert.Reference2Ideal.Ffn.after b r :=
    Fin.ext (by show 1024 + R.val = 1024 + (b.val * 4096 + r.val); omega)
  have em : (⟨R.val / 4096, by omega⟩ : Fin 8) = Cert.Reference2Ideal.Ffn.batch b := Fin.ext eb.symm
  rw [ea, em, ← hR]

end Cert.Ffn

end
-- ==== Proof.In.Row.lean ====
module

public import proofs.«01_k».proof.Proof.Out.Row

@[expose] public section

set_option maxRecDepth 16384

noncomputable section

namespace Cert.LruIn

open Idealize.ShloMosaic
open Cert.Ffn (modn)

/-! ## One row of the recurrent block's first product, over the extended reals -/

/-- A normalised, scaled and shifted row times the weight, -/
def hid (x g b s : Fin 1024 → EReal) (w : Fin 1024 → Fin 2048 → EReal) (n : Fin 2048) : EReal := ∑ k, modn x g b s k * w k n
/-- its first 1024 columns and its last, -/
def lo (j : Fin 1024) : Fin 2048 := ⟨j.val, by omega⟩
def hi (j : Fin 1024) : Fin 2048 := ⟨1024 + j.val, by omega⟩
/-- and the smooth rectifier of the first ones. -/
def gelu (z : EReal) : EReal :=
  z * (Ideal.ofBits .f32 0x3F000000#32 * (1 + Ideal.tanh (Ideal.ofBits .f32 0x3F4C422A#32 * (z + Ideal.ofBits .f32 0x3D372713#32 * (z * (z * z))))))

end Cert.LruIn

end
-- ==== Proof.In.Block.lean ====
module

public import proofs.«01_k».proof.Proof.Gen.Kernel3Ideal.Value
public import proofs.«01_k».proof.Proof.In.Row

@[expose] public section

set_option maxRecDepth 16384

noncomputable section

namespace Cert.Kernel3Ideal.LruIn

open Cert.Kernel3Ideal Cert.Kernel3Ideal.Gen
open Idealize.ShloMosaic Idealize.ShloMosaic.TcCoe Idealize.SL.Sem
open Cert.Ffn (modn)
open Cert.LruIn

/-! ## A tile's values, entry by entry, over the extended reals -/

section
variable (X : FVec Ideal S256x1024 .f32) (g : FVec Ideal S1x1024 .f32) (b s : FVec Ideal S1x1x1024 .f32) (w : FVec Ideal S1024x2048 .bf16) (r : Fin 256) (j : Fin 1024)

theorem mod_at : k0_pay3 (F := Ideal) X g b s (ix2 r j) = modn (fun j => X (ix2 r j)) (fun j => g (ix2 0 j)) (fun j => b (ix3 0 0 j)) (fun j => s (ix3 0 0 j)) j := by
  pointwise [k0_pay3]
  rfl
theorem dot_at (h : FVec Ideal S256x1024 .bf16) (n : Fin 2048) : k0_pay11 (F := Ideal) h w (ix2 r n) = ∑ k, h (ix2 r k) * w (ix2 k n) := by
  pointwise [k0_pay11]
theorem gelu_at (z : FVec Ideal S256x2048 .f32) : k0_pay14 (F := Ideal) z (ix2 r j) = gelu (z (ix2 r (lo j))) := by
  pointwise [k0_pay14]
  rfl
theorem up_at (z : FVec Ideal S256x2048 .f32) : k0_pay15 (F := Ideal) z (ix2 r j) = z (ix2 r (hi j)) := by
  pointwise [k0_pay15]
  rfl

/-- A tile's product with the weight. -/
abbrev prod : FVec Ideal S256x2048 .f32 := k0_pay11 (F := Ideal) (k0_pay3 X g b s) w
theorem prod_at (x g' b' s' : Fin 1024 → EReal) (w' : Fin 1024 → Fin 2048 → EReal) (hX : ∀ j, X (ix2 r j) = x j) (hg : ∀ j, g (ix2 0 j) = g' j)
    (hb : ∀ j, b (ix3 0 0 j) = b' j) (hs : ∀ j, s (ix3 0 0 j) = s' j) (hw : ∀ k n, w (ix2 k n) = w' k n) (n : Fin 2048) :
    prod X g b s w (ix2 r n) = hid x g' b' s' w' n := by
  unfold prod
  rw [dot_at]
  simp only [mod_at, hX, hg, hb, hs, hw]
  rfl
end

/-! ## The block of one grid point, entry by entry -/

section
variable (i : grid0.Coords) (x0 : FVec Ideal S1024x1024 .f32) (x1 : FVec Ideal S1024x1024 .f32) (x2 : FVec Ideal S1x1024 .f32) (x3 : FVec Ideal S1x6x1024 .f32)
  (x4 : FVec Ideal S1024x2048 .bf16) (r : Fin 256) (j k : Fin 1024) (n : Fin 2048)

/-- The block the grid point reads: the context's at the first, the latents' at every later one. -/
def src : FVec Ideal S1024x1024 .f32 := Scalar.select (Scalar.cmpi .slt (BitVec.ofNat 32 (i 0).val) 1#32) x0 x1

/-- Row `r` of tile 0. -/
def row0 (r : Fin 256) : Fin 1024 := ⟨0 + r.val, by omega⟩
theorem ld_x0 : (Scalar.select (Scalar.cmpi .slt (BitVec.ofNat 32 (i 0).val) 1#32) (View.ld (Val := Elt Ideal) (e' := .f32) x0 r0_0) (View.ld (Val := Elt Ideal) (e' := .f32) x1 r0_0)
    : FVec Ideal S256x1024 .f32) (ix2 r j) = src i x0 x1 (ix2 (row0 r) j) := by
  have h : ∀ x : FVec Ideal S1024x1024 .f32, View.ld (Val := Elt Ideal) (e' := .f32) x r0_0 (ix2 r j) = x (ix2 (row0 r) j) := by
    intro x
    pointwise
    exact congrArg (fun q => x (ix2 q j)) (Fin.ext (Nat.zero_add _).symm)
  unfold src Scalar.select
  split
  · exact h x0
  · exact h x1
theorem emb0 : r0_0.emb (ix2 r j) = ix2 (row0 r) j := by
  funext a
  apply Fin.ext
  match a with
  | ⟨0, _⟩ => show 0 + 1 * r.val = 0 + r.val; omega
  | ⟨1, _⟩ => show 0 + 1 * j.val = j.val; omega
/-- Row `r` of tile 1. -/
def row1 (r : Fin 256) : Fin 1024 := ⟨256 + r.val, by omega⟩
theorem ld_x1 : (Scalar.select (Scalar.cmpi .slt (BitVec.ofNat 32 (i 0).val) 1#32) (View.ld (Val := Elt Ideal) (e' := .f32) x0 r0_4) (View.ld (Val := Elt Ideal) (e' := .f32) x1 r0_4)
    : FVec Ideal S256x1024 .f32) (ix2 r j) = src i x0 x1 (ix2 (row1 r) j) := by
  have h : ∀ x : FVec Ideal S1024x1024 .f32, View.ld (Val := Elt Ideal) (e' := .f32) x r0_4 (ix2 r j) = x (ix2 (row1 r) j) := by
    intro x
    pointwise
    rfl
  unfold src Scalar.select
  split
  · exact h x0
  · exact h x1
theorem emb1 : r0_4.emb (ix2 r j) = ix2 (row1 r) j := by
  funext a
  apply Fin.ext
  match a with
  | ⟨0, _⟩ => show 256 + 1 * r.val = 256 + r.val; omega
  | ⟨1, _⟩ => show 0 + 1 * j.val = j.val; omega
/-- Row `r` of tile 2. -/
def row2 (r : Fin 256) : Fin 1024 := ⟨512 + r.val, by omega⟩
theorem ld_x2 : (Scalar.select (Scalar.cmpi .slt (BitVec.ofNat 32 (i 0).val) 1#32) (View.ld (Val := Elt Ideal) (e' := .f32) x0 r0_5) (View.ld (Val := Elt Ideal) (e' := .f32) x1 r0_5)
    : FVec Ideal S256x1024 .f32) (ix2 r j) = src i x0 x1 (ix2 (row2 r) j) := by
  have h : ∀ x : FVec Ideal S1024x1024 .f32, View.ld (Val := Elt Ideal) (e' := .f32) x r0_5 (ix2 r j) = x (ix2 (row2 r) j) := by
    intro x
    pointwise
    rfl
  unfold src Scalar.select
  split
  · exact h x0
  · exact h x1
theorem emb2 : r0_5.emb (ix2 r j) = ix2 (row2 r) j := by
  funext a
  apply Fin.ext
  match a with
  | ⟨0, _⟩ => show 512 + 1 * r.val = 512 + r.val; omega
  | ⟨1, _⟩ => show 0 + 1 * j.val = j.val; omega
/-- Row `r` of tile 3. -/
def row3 (r : Fin 256) : Fin 1024 := ⟨768 + r.val, by omega⟩
theorem ld_x3 : (Scalar.select (Scalar.cmpi .slt (BitVec.ofNat 32 (i 0).val) 1#32) (View.ld (Val := Elt Ideal) (e' := .f32) x0 r0_6) (View.ld (Val := Elt Ideal) (e' := .f32) x1 r0_6)
    : FVec Ideal S256x1024 .f32) (ix2 r j) = src i x0 x1 (ix2 (row3 r) j) := by
  have h : ∀ x : FVec Ideal S1024x1024 .f32, View.ld (Val := Elt Ideal) (e' := .f32) x r0_6 (ix2 r j) = x (ix2 (row3 r) j) := by
    intro x
    pointwise
    rfl
  unfold src Scalar.select
  split
  · exact h x0
  · exact h x1
theorem emb3 : r0_6.emb (ix2 r j) = ix2 (row3 r) j := by
  funext a
  apply Fin.ext
  match a with
  | ⟨0, _⟩ => show 768 + 1 * r.val = 768 + r.val; omega
  | ⟨1, _⟩ => show 0 + 1 * j.val = j.val; omega
theorem ld_g : View.ld (Val := Elt Ideal) (e' := .f32) x2 r0_1 (ix2 0 j) = x2 (ix2 0 j) := by
  pointwise
theorem ld_b : View.ld (Val := Elt Ideal) (e' := .f32) x3 r0_2 (ix3 0 0 j) = x3 (ix3 0 0 j) := by
  pointwise
theorem ld_s : View.ld (Val := Elt Ideal) (e' := .f32) x3 r0_3 (ix3 0 0 j) = x3 (ix3 0 1 j) := by
  pointwise
theorem ld_w : View.ld (Val := Elt Ideal) (e' := .bf16) x4 r0_7 (ix2 k n) = x4 (ix2 k n) := by
  pointwise

/-- A row of the product at row `ρ` of the block. -/
def rowOf (ρ : Fin 1024) : Fin 2048 → EReal :=
  hid (fun j => src i x0 x1 (ix2 ρ j)) (fun j => x2 (ix2 0 j)) (fun j => x3 (ix3 0 0 j)) (fun j => x3 (ix3 0 1 j)) (fun k n => x4 (ix2 k n))

theorem prod0_at : prod (Scalar.select (Scalar.cmpi .slt (BitVec.ofNat 32 (i 0).val) 1#32) (View.ld (Val := Elt Ideal) (e' := .f32) x0 r0_0) (View.ld (Val := Elt Ideal) (e' := .f32) x1 r0_0))
      (View.ld (Val := Elt Ideal) (e' := .f32) x2 r0_1) (View.ld (Val := Elt Ideal) (e' := .f32) x3 r0_2) (View.ld (Val := Elt Ideal) (e' := .f32) x3 r0_3)
      (View.ld (Val := Elt Ideal) (e' := .bf16) x4 r0_7) (ix2 r n)
    = rowOf i x0 x1 x2 x3 x4 (row0 r) n :=
  prod_at _ _ _ _ _ r _ _ _ _ _ (ld_x0 i x0 x1 r) (ld_g x2) (ld_b x3) (ld_s x3) (fun k n => ld_w x4 k n) n
theorem prod1_at : prod (Scalar.select (Scalar.cmpi .slt (BitVec.ofNat 32 (i 0).val) 1#32) (View.ld (Val := Elt Ideal) (e' := .f32) x0 r0_4) (View.ld (Val := Elt Ideal) (e' := .f32) x1 r0_4))
      (View.ld (Val := Elt Ideal) (e' := .f32) x2 r0_1) (View.ld (Val := Elt Ideal) (e' := .f32) x3 r0_2) (View.ld (Val := Elt Ideal) (e' := .f32) x3 r0_3)
      (View.ld (Val := Elt Ideal) (e' := .bf16) x4 r0_7) (ix2 r n)
    = rowOf i x0 x1 x2 x3 x4 (row1 r) n :=
  prod_at _ _ _ _ _ r _ _ _ _ _ (ld_x1 i x0 x1 r) (ld_g x2) (ld_b x3) (ld_s x3) (fun k n => ld_w x4 k n) n
theorem prod2_at : prod (Scalar.select (Scalar.cmpi .slt (BitVec.ofNat 32 (i 0).val) 1#32) (View.ld (Val := Elt Ideal) (e' := .f32) x0 r0_5) (View.ld (Val := Elt Ideal) (e' := .f32) x1 r0_5))
      (View.ld (Val := Elt Ideal) (e' := .f32) x2 r0_1) (View.ld (Val := Elt Ideal) (e' := .f32) x3 r0_2) (View.ld (Val := Elt Ideal) (e' := .f32) x3 r0_3)
      (View.ld (Val := Elt Ideal) (e' := .bf16) x4 r0_7) (ix2 r n)
    = rowOf i x0 x1 x2 x3 x4 (row2 r) n :=
  prod_at _ _ _ _ _ r _ _ _ _ _ (ld_x2 i x0 x1 r) (ld_g x2) (ld_b x3) (ld_s x3) (fun k n => ld_w x4 k n) n
theorem prod3_at : prod (Scalar.select (Scalar.cmpi .slt (BitVec.ofNat 32 (i 0).val) 1#32) (View.ld (Val := Elt Ideal) (e' := .f32) x0 r0_6) (View.ld (Val := Elt Ideal) (e' := .f32) x1 r0_6))
      (View.ld (Val := Elt Ideal) (e' := .f32) x2 r0_1) (View.ld (Val := Elt Ideal) (e' := .f32) x3 r0_2) (View.ld (Val := Elt Ideal) (e' := .f32) x3 r0_3)
      (View.ld (Val := Elt Ideal) (e' := .bf16) x4 r0_7) (ix2 r n)
    = rowOf i x0 x1 x2 x3 x4 (row3 r) n :=
  prod_at _ _ _ _ _ r _ _ _ _ _ (ld_x3 i x0 x1 r) (ld_g x2) (ld_b x3) (ld_s x3) (fun k n => ld_w x4 k n) n
theorem not_mem01 : ix2 (row0 r) j ∉ r0_4.set := by
  rw [Rect.mem_set_unit]
  intro hm
  have h : 256 ≤ 0 + r.val := (hm 0).1
  have hr := r.isLt
  omega
theorem not_mem02 : ix2 (row0 r) j ∉ r0_5.set := by
  rw [Rect.mem_set_unit]
  intro hm
  have h : 512 ≤ 0 + r.val := (hm 0).1
  have hr := r.isLt
  omega
theorem not_mem03 : ix2 (row0 r) j ∉ r0_6.set := by
  rw [Rect.mem_set_unit]
  intro hm
  have h : 768 ≤ 0 + r.val := (hm 0).1
  have hr := r.isLt
  omega
theorem not_mem12 : ix2 (row1 r) j ∉ r0_5.set := by
  rw [Rect.mem_set_unit]
  intro hm
  have h : 512 ≤ 256 + r.val := (hm 0).1
  have hr := r.isLt
  omega
theorem not_mem13 : ix2 (row1 r) j ∉ r0_6.set := by
  rw [Rect.mem_set_unit]
  intro hm
  have h : 768 ≤ 256 + r.val := (hm 0).1
  have hr := r.isLt
  omega
theorem not_mem23 : ix2 (row2 r) j ∉ r0_6.set := by
  rw [Rect.mem_set_unit]
  intro hm
  have h : 768 ≤ 512 + r.val := (hm 0).1
  have hr := r.isLt
  omega

section
variable (p0 p1 p2 p3 : Vec Ideal S256x1024 .f32)
/-- Four tiles as one block. -/
abbrev four : Vec Ideal S1024x1024 .f32 :=
  View.canon (Val := Elt Ideal) (s := S1024x1024) (e := .f32) [⟨r0_6, p3⟩, ⟨r0_5, p2⟩, ⟨r0_4, p1⟩, ⟨r0_0, p0⟩]
theorem four0 : four p0 p1 p2 p3 (ix2 (row0 r) j) = p0 (ix2 r j) := by
  unfold four
  refine (View.canon_cons_of_not_mem (Val := Elt Ideal) ⟨r0_6, p3⟩ [⟨r0_5, p2⟩, ⟨r0_4, p1⟩, ⟨r0_0, p0⟩] (not_mem03 r j)).trans ?_
  refine (View.canon_cons_of_not_mem (Val := Elt Ideal) ⟨r0_5, p2⟩ [⟨r0_4, p1⟩, ⟨r0_0, p0⟩] (not_mem02 r j)).trans ?_
  refine (View.canon_cons_of_not_mem (Val := Elt Ideal) ⟨r0_4, p1⟩ [⟨r0_0, p0⟩] (not_mem01 r j)).trans ?_
  exact (congrArg _ (emb0 r j).symm).trans (View.canon_cons_emb (Val := Elt Ideal) (e := .f32) r0_0 p0 [] (ix2 r j))
theorem four1 : four p0 p1 p2 p3 (ix2 (row1 r) j) = p1 (ix2 r j) := by
  unfold four
  refine (View.canon_cons_of_not_mem (Val := Elt Ideal) ⟨r0_6, p3⟩ [⟨r0_5, p2⟩, ⟨r0_4, p1⟩, ⟨r0_0, p0⟩] (not_mem13 r j)).trans ?_
  refine (View.canon_cons_of_not_mem (Val := Elt Ideal) ⟨r0_5, p2⟩ [⟨r0_4, p1⟩, ⟨r0_0, p0⟩] (not_mem12 r j)).trans ?_
  exact (congrArg _ (emb1 r j).symm).trans (View.canon_cons_emb (Val := Elt Ideal) (e := .f32) r0_4 p1 [⟨r0_0, p0⟩] (ix2 r j))
theorem four2 : four p0 p1 p2 p3 (ix2 (row2 r) j) = p2 (ix2 r j) := by
  unfold four
  refine (View.canon_cons_of_not_mem (Val := Elt Ideal) ⟨r0_6, p3⟩ [⟨r0_5, p2⟩, ⟨r0_4, p1⟩, ⟨r0_0, p0⟩] (not_mem23 r j)).trans ?_
  exact (congrArg _ (emb2 r j).symm).trans (View.canon_cons_emb (Val := Elt Ideal) (e := .f32) r0_5 p2 [⟨r0_4, p1⟩, ⟨r0_0, p0⟩] (ix2 r j))
theorem four3 : four p0 p1 p2 p3 (ix2 (row3 r) j) = p3 (ix2 r j) := by
  unfold four
  exact (congrArg _ (emb3 r j).symm).trans (View.canon_cons_emb (Val := Elt Ideal) (e := .f32) r0_6 p3 [⟨r0_5, p2⟩, ⟨r0_4, p1⟩, ⟨r0_0, p0⟩] (ix2 r j))
end

/-- A row of the block is in one of the four tiles. -/
theorem row_cases (ρ : Fin 1024) : ∃ r, ρ = row0 r ∨ ρ = row1 r ∨ ρ = row2 r ∨ ρ = row3 r := by
  have h : ρ.val % 256 < 256 := by omega
  refine ⟨⟨ρ.val % 256, h⟩, ?_⟩
  have e : ∀ o : Nat, ρ.val / 256 * 256 = o → ρ.val = o + ρ.val % 256 := by omega
  rcases (by omega : ρ.val / 256 = 0 ∨ ρ.val / 256 = 1 ∨ ρ.val / 256 = 2 ∨ ρ.val / 256 = 3) with q | q | q | q
  · exact .inl (Fin.ext (e 0 (by omega)))
  · exact .inr (.inl (Fin.ext (e 256 (by omega))))
  · exact .inr (.inr (.inl (Fin.ext (e 512 (by omega)))))
  · exact .inr (.inr (.inr (Fin.ext (e 768 (by omega)))))

/-- What a grid point writes at an entry of its two blocks. -/
theorem block5_at (ρ : Fin 1024) : out0_5 (F := Ideal) i x0 x1 x2 x3 x4 (ix2 ρ j) = gelu (rowOf i x0 x1 x2 x3 x4 ρ (lo j)) := by
  obtain ⟨r, rfl | rfl | rfl | rfl⟩ := row_cases ρ
  · exact (four0 r j _ _ _ _).trans ((gelu_at r j _).trans (congrArg gelu (prod0_at i x0 x1 x2 x3 x4 r (lo j))))
  · exact (four1 r j _ _ _ _).trans ((gelu_at r j _).trans (congrArg gelu (prod1_at i x0 x1 x2 x3 x4 r (lo j))))
  · exact (four2 r j _ _ _ _).trans ((gelu_at r j _).trans (congrArg gelu (prod2_at i x0 x1 x2 x3 x4 r (lo j))))
  · exact (four3 r j _ _ _ _).trans ((gelu_at r j _).trans (congrArg gelu (prod3_at i x0 x1 x2 x3 x4 r (lo j))))
theorem block6_at (ρ : Fin 1024) : out0_6 (F := Ideal) i x0 x1 x2 x3 x4 (ix2 ρ j) = rowOf i x0 x1 x2 x3 x4 ρ (hi j) := by
  obtain ⟨r, rfl | rfl | rfl | rfl⟩ := row_cases ρ
  · exact (four0 r j _ _ _ _).trans ((up_at r j _).trans (prod0_at i x0 x1 x2 x3 x4 r (hi j)))
  · exact (four1 r j _ _ _ _).trans ((up_at r j _).trans (prod1_at i x0 x1 x2 x3 x4 r (hi j)))
  · exact (four2 r j _ _ _ _).trans ((up_at r j _).trans (prod2_at i x0 x1 x2 x3 x4 r (hi j)))
  · exact (four3 r j _ _ _ _).trans ((up_at r j _).trans (prod3_at i x0 x1 x2 x3 x4 r (hi j)))

end

end Cert.Kernel3Ideal.LruIn

end
-- ==== Proof.In.Value.lean ====
module

public import proofs.«01_k».proof.Proof.In.Block

@[expose] public section

set_option maxRecDepth 16384

noncomputable section

namespace Cert.Kernel3Ideal.LruIn

open Cert.Kernel3Ideal Cert.Kernel3Ideal.Gen
open Idealize.ShloMosaic Idealize.ShloMosaic.TcCoe Idealize.SL.Sem
open Cert.LruIn

/-! ## The two results' arrays -/

variable (m : (ℓ : Loc nD τ sig) → Buf (Elt Ideal) ℓ) (ρ : Dev nD → PrngReg) (c : Dev nD)

/-- The five operands. -/
abbrev aC : FVec Ideal S1024x1024 .f32 := m ((c : Thread nD τ).loc main_arg0)
abbrev aX : FVec Ideal S16384x1024 .f32 := m ((c : Thread nD τ).loc main_arg1)
abbrev aG : FVec Ideal S1x1024 .f32 := m ((c : Thread nD τ).loc main_arg2)
abbrev aMods : FVec Ideal S8x6x1024 .f32 := m ((c : Thread nD τ).loc main_arg3)
abbrev aW : FVec Ideal S1024x2048 .bf16 := m ((c : Thread nD τ).loc main_arg4)

theorem lt17 (t : Fin cfg0.N) : t.val < 17 := lt_of_lt_of_eq t.isLt N_0

/-- The batch whose modulation a grid point reads: the context's at the first, the latents' at the later ones. -/
def modOf (t : Nat) : Nat := if t = 0 then 4 else (t - 1) / 4
theorem modOf_lt (t : Nat) (h : t < 17) : modOf t < 8 := by
  unfold modOf
  split <;> omega

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = t.val - 1 ∧ win0_1.index t 1 = 0 :=
  (by decide +kernel : ∀ t : Fin grid0.N, win0_1.index t 0 = t.val - 1 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = modOf t.val ∧ win0_3.index t 1 = 0 ∧ win0_3.index t 2 = 0 :=
  (by decide +kernel : ∀ t : Fin grid0.N, win0_3.index t 0 = modOf t.val ∧ win0_3.index t 1 = 0 ∧ win0_3.index t 2 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
/-- Which of the two inputs a grid point takes. -/
theorem cond_at : ∀ t : Fin cfg0.N, Scalar.cmpi .slt (BitVec.ofNat 32 (grid0.coords t 0).val) 1#32 = if t.val = 0 then 1 else 0 :=
  (by decide +kernel : ∀ t : Fin grid0.N, Scalar.cmpi .slt (BitVec.ofNat 32 (grid0.coords t 0).val) 1#32 = if t.val = 0 then 1 else 0)
theorem src_zero (t : Fin cfg0.N) (h : t.val = 0) (x0 x1 : FVec Ideal S1024x1024 .f32) : src (grid0.coords t) x0 x1 = x0 := by
  unfold src Scalar.select
  rw [cond_at, if_pos h, if_pos rfl]
theorem src_pos (t : Fin cfg0.N) (h : t.val ≠ 0) (x0 x1 : FVec Ideal S1024x1024 .f32) : src (grid0.coords t) x0 x1 = x1 := by
  unfold src Scalar.select
  rw [cond_at, if_neg h, if_neg (by decide)]

/-- The first point reads the context, a later one `t` the latents' rows from `1024 (t - 1)` on, -/
theorem blk0_at (t : Fin cfg0.N) (ρ : Fin 1024) (j : Fin 1024) :
    (iblk m c 0 t : FVec Ideal S1024x1024 .f32) (ix2 ρ j) = aC m c (ix2 ρ j) := by
  obtain ⟨h0, h1⟩ := idx0 t
  unfold iblk
  rw [View.read_apply]
  show V m c main_arg0 _ = m (c.tc.loc main_arg0) _
  unfold V
  congr 1
  funext a
  apply Fin.ext
  match a with
  | ⟨0, _⟩ => show win0_0.index t 0 * 1024 + 1 * ρ.val = ρ.val; rw [h0]; omega
  | ⟨1, _⟩ => show win0_0.index t 1 * 1024 + 1 * j.val = j.val; rw [h1]; omega
theorem blk1_at (t : Fin cfg0.N) (ρ : Fin 1024) (j : Fin 1024) :
    (iblk m c 1 t : FVec Ideal S1024x1024 .f32) (ix2 ρ j) = aX m c (ix2 ⟨(t.val - 1) * 1024 + ρ.val, by have := lt17 t; omega⟩ j) := by
  obtain ⟨h0, h1⟩ := idx1 t
  unfold iblk
  rw [View.read_apply]
  show V m c main_arg1 _ = m (c.tc.loc main_arg1) _
  unfold V
  congr 1
  funext a
  apply Fin.ext
  match a with
  | ⟨0, _⟩ => show win0_1.index t 0 * 1024 + 1 * ρ.val = (t.val - 1) * 1024 + ρ.val; rw [h0]; omega
  | ⟨1, _⟩ => show win0_1.index t 1 * 1024 + 1 * j.val = j.val; rw [h1]; omega
/-- and each the normalisation's weight, its batch's modulation rows and the whole of the product's weight. -/
theorem blk2_at (t : Fin cfg0.N) (j : Fin 1024) :
    (iblk m c 2 t : FVec Ideal S1x1024 .f32) (ix2 0 j) = aG m c (ix2 0 j) := by
  obtain ⟨h0, h1⟩ := idx2 t
  unfold iblk
  rw [View.read_apply]
  show V m c main_arg2 _ = m (c.tc.loc main_arg2) _
  unfold V
  congr 1
  funext a
  apply Fin.ext
  match a with
  | ⟨0, _⟩ => show win0_2.index t 0 * 1 + 1 * (0 : Fin 1).val = 0; rw [h0]; omega
  | ⟨1, _⟩ => show win0_2.index t 1 * 1024 + 1 * j.val = j.val; rw [h1]; omega
theorem blk3_at (t : Fin cfg0.N) (q : Fin 6) (j : Fin 1024) :
    (iblk m c 3 t : FVec Ideal S1x6x1024 .f32) (ix3 0 q j) = aMods m c (ix3 ⟨modOf t.val, modOf_lt _ (lt17 t)⟩ q j) := by
  obtain ⟨h0, h1, h2⟩ := idx3 t
  unfold iblk
  rw [View.read_apply]
  show V m c main_arg3 _ = m (c.tc.loc main_arg3) _
  unfold V
  congr 1
  funext a
  apply Fin.ext
  match a with
  | ⟨0, _⟩ => show win0_3.index t 0 * 1 + 1 * (0 : Fin 1).val = modOf t.val; rw [h0]; omega
  | ⟨1, _⟩ => show win0_3.index t 1 * 6 + 1 * q.val = q.val; rw [h1]; omega
  | ⟨2, _⟩ => show win0_3.index t 2 * 1024 + 1 * j.val = j.val; rw [h2]; omega
theorem blk4_at (t : Fin cfg0.N) (k : Fin 1024) (n : Fin 2048) :
    (iblk m c 4 t : FVec Ideal S1024x2048 .bf16) (ix2 k n) = aW m c (ix2 k n) := by
  obtain ⟨h0, h1⟩ := idx4 t
  unfold iblk
  rw [View.read_apply]
  show V m c main_arg4 _ = m (c.tc.loc main_arg4) _
  unfold V
  congr 1
  funext a
  apply Fin.ext
  match a with
  | ⟨0, _⟩ => show win0_4.index t 0 * 1024 + 1 * k.val = k.val; rw [h0]; omega
  | ⟨1, _⟩ => show win0_4.index t 1 * 2048 + 1 * n.val = n.val; rw [h1]; omega

/-- The results' entries at row `R`: the row's block and its place there. -/
def ptOf (R : Fin 17408) : Fin cfg0.N := ⟨R.val / 1024, by
  have hN : cfg0.N = 17 := N_0
  omega⟩
def inOf (R : Fin 17408) : Fin 1024 := ⟨R.val % 1024, by omega⟩

/-- The block a grid point writes to result 0, and the array of them. -/
@[irreducible] def blkOut5 (t : Fin cfg0.N) : FVec Ideal S1024x1024 .f32 :=
  out0_5 (F := Ideal) (grid0.coords t) (iblk m c 0 t) (iblk m c 1 t) (iblk m c 2 t) (iblk m c 3 t) (iblk m c 4 t)
def res5 : Buf (Elt Ideal) ((c : Thread nD τ).loc main_v0_0) := fun i =>
  blkOut5 m c (ptOf (i 0)) (ix2 (inOf (i 0)) (i 1))
theorem flushed_out5 (t : Fin cfg0.N) : (dats m 0 c).flushed 5 t = (cfg0.win 5).cut (grid0.coords t) (blkOut5 m c t) := by
  unfold blkOut5
  exact Value.flushed5 m c t
theorem flushed_eq5 (t : Fin cfg0.N) : (dats m 0 c).flushed 5 t = (win0_5.blk t).view.read (Elt Ideal) (res5 m c) := by
  rw [flushed_out5]
  obtain ⟨h0, h1⟩ := idx5 t
  have ht := lt17 t
  funext y
  have y0 : (y 0).val < 1024 := (y 0).isLt
  have y1 : (y 1).val < 1024 := (y 1).isLt
  have key : ∀ i : S17408x1024.Idx, (i 0).val = 1024 * t.val + (y 0).val → (i 1).val = (y 1).val →
      blkOut5 m c t y = res5 m c i := by
    intro i e0 e1
    unfold res5
    have ep : ptOf (i 0) = t := Fin.ext (by show (i 0).val / 1024 = t.val; omega)
    rw [ep]
    refine congrArg (blkOut5 m c t) ?_
    funext a
    apply Fin.ext
    match a with
    | ⟨0, _⟩ => show (y 0).val = (i 0).val % 1024; omega
    | ⟨1, _⟩ => show (y 1).val = (i 1).val; omega
  rw [View.read_apply]
  refine key _ ?_ ?_
  · show win0_5.index t 0 * 1024 + 1 * (y 0).val = _
    rw [h0]; omega
  · show win0_5.index t 1 * 1024 + 1 * (y 1).val = _
    rw [h1]; omega
theorem mem_blk5 (t : Fin cfg0.N) (x : S17408x1024.Idx) (h : (x 0).val / 1024 = t.val) : x ∈ ((cfg0.win 5).blk t).view.set := by
  show x ∈ ((View.whole main_v0_0).slice (win0_5.rect t)).set
  rw [View.set_slice_whole, Rect.mem_set_unit]
  obtain ⟨i0, i1⟩ := idx5 t
  have x1 : (x 1).val < 1024 := (x 1).isLt
  intro a
  match a with
  | ⟨0, _⟩ => show win0_5.index t 0 * 1024 ≤ (x 0).val ∧ (x 0).val < win0_5.index t 0 * 1024 + 1024; rw [i0]; omega
  | ⟨1, _⟩ => show win0_5.index t 1 * 1024 ≤ (x 1).val ∧ (x 1).val < win0_5.index t 1 * 1024 + 1024; rw [i1]; omega
theorem final5 : (dats m 0 c).arrAt 5 cfg0.N = res5 m c :=
  (dats m 0 c).arrAt_eq_of_cover 5 (res5 m c) (fun t _ => flushed_eq5 m c t) fun x => ⟨ptOf (x 0), flush0_5 _, mem_blk5 _ x rfl⟩

/-- The block a grid point writes to result 1, and the array of them. -/
@[irreducible] def blkOut6 (t : Fin cfg0.N) : FVec Ideal S1024x1024 .f32 :=
  out0_6 (F := Ideal) (grid0.coords t) (iblk m c 0 t) (iblk m c 1 t) (iblk m c 2 t) (iblk m c 3 t) (iblk m c 4 t)
def res6 : Buf (Elt Ideal) ((c : Thread nD τ).loc main_v0_1) := fun i =>
  blkOut6 m c (ptOf (i 0)) (ix2 (inOf (i 0)) (i 1))
theorem flushed_out6 (t : Fin cfg0.N) : (dats m 0 c).flushed 6 t = (cfg0.win 6).cut (grid0.coords t) (blkOut6 m c t) := by
  unfold blkOut6
  exact Value.flushed6 m c t
theorem flushed_eq6 (t : Fin cfg0.N) : (dats m 0 c).flushed 6 t = (win0_6.blk t).view.read (Elt Ideal) (res6 m c) := by
  rw [flushed_out6]
  obtain ⟨h0, h1⟩ := idx6 t
  have ht := lt17 t
  funext y
  have y0 : (y 0).val < 1024 := (y 0).isLt
  have y1 : (y 1).val < 1024 := (y 1).isLt
  have key : ∀ i : S17408x1024.Idx, (i 0).val = 1024 * t.val + (y 0).val → (i 1).val = (y 1).val →
      blkOut6 m c t y = res6 m c i := by
    intro i e0 e1
    unfold res6
    have ep : ptOf (i 0) = t := Fin.ext (by show (i 0).val / 1024 = t.val; omega)
    rw [ep]
    refine congrArg (blkOut6 m c t) ?_
    funext a
    apply Fin.ext
    match a with
    | ⟨0, _⟩ => show (y 0).val = (i 0).val % 1024; omega
    | ⟨1, _⟩ => show (y 1).val = (i 1).val; omega
  rw [View.read_apply]
  refine key _ ?_ ?_
  · show win0_6.index t 0 * 1024 + 1 * (y 0).val = _
    rw [h0]; omega
  · show win0_6.index t 1 * 1024 + 1 * (y 1).val = _
    rw [h1]; omega
theorem mem_blk6 (t : Fin cfg0.N) (x : S17408x1024.Idx) (h : (x 0).val / 1024 = t.val) : x ∈ ((cfg0.win 6).blk t).view.set := by
  show x ∈ ((View.whole main_v0_1).slice (win0_6.rect t)).set
  rw [View.set_slice_whole, Rect.mem_set_unit]
  obtain ⟨i0, i1⟩ := idx6 t
  have x1 : (x 1).val < 1024 := (x 1).isLt
  intro a
  match a with
  | ⟨0, _⟩ => show win0_6.index t 0 * 1024 ≤ (x 0).val ∧ (x 0).val < win0_6.index t 0 * 1024 + 1024; rw [i0]; omega
  | ⟨1, _⟩ => show win0_6.index t 1 * 1024 ≤ (x 1).val ∧ (x 1).val < win0_6.index t 1 * 1024 + 1024; rw [i1]; omega
theorem final6 : (dats m 0 c).arrAt 6 cfg0.N = res6 m c :=
  (dats m 0 c).arrAt_eq_of_cover 6 (res6 m c) (fun t _ => flushed_eq6 m c t) fun x => ⟨ptOf (x 0), flush0_6 _, mem_blk6 _ x rfl⟩

/-- The product's row at row `R` of the results, in the blocks the row's point reads, -/
def rowAt (R : Fin 17408) : Fin 2048 → EReal :=
  rowOf (grid0.coords (ptOf R)) (iblk m c 0 (ptOf R)) (iblk m c 1 (ptOf R)) (iblk m c 2 (ptOf R)) (iblk m c 3 (ptOf R)) (iblk m c 4 (ptOf R)) (inOf R)
theorem res5_at (R : Fin 17408) (j : Fin 1024) : res5 m c (ix2 R j) = gelu (rowAt m c R (lo j)) := by
  have e' : res5 m c (ix2 R j) = blkOut5 m c (ptOf R) (ix2 (inOf R) j) := rfl
  rw [e']
  unfold blkOut5 rowAt
  exact block5_at (grid0.coords (ptOf R)) (iblk m c 0 (ptOf R)) (iblk m c 1 (ptOf R)) (iblk m c 2 (ptOf R)) (iblk m c 3 (ptOf R)) (iblk m c 4 (ptOf R)) j (inOf R)
theorem res6_at (R : Fin 17408) (j : Fin 1024) : res6 m c (ix2 R j) = rowAt m c R (hi j) := by
  have e' : res6 m c (ix2 R j) = blkOut6 m c (ptOf R) (ix2 (inOf R) j) := rfl
  rw [e']
  unfold blkOut6 rowAt
  exact block6_at (grid0.coords (ptOf R)) (iblk m c 0 (ptOf R)) (iblk m c 1 (ptOf R)) (iblk m c 2 (ptOf R)) (iblk m c 3 (ptOf R)) (iblk m c 4 (ptOf R)) j (inOf R)

section
variable (t : Fin cfg0.N)
theorem f2 : (fun j => (iblk m c 2 t : FVec Ideal S1x1024 .f32) (ix2 0 j)) = fun j => aG m c (ix2 0 j) := funext fun j => blk2_at m c t j
theorem f3 (q : Fin 6) (b : Fin 8) (hb : modOf t.val = b.val) :
    (fun j => (iblk m c 3 t : FVec Ideal S1x6x1024 .f32) (ix3 0 q j)) = fun j => aMods m c (ix3 b q j) :=
  funext fun j => (blk3_at m c t q j).trans (congrArg (fun k => aMods m c (ix3 k q j)) (Fin.ext hb))
theorem f4 : (fun k n => (iblk m c 4 t : FVec Ideal S1024x2048 .bf16) (ix2 k n)) = fun k n => aW m c (ix2 k n) :=
  funext fun k => funext fun n => blk4_at m c t k n
end

/-- and in the arguments: a row of the context, -/
theorem rowAt_ctx (R : Fin 17408) (C : Fin 1024) (hC : R.val = C.val) (n : Fin 2048) : rowAt m c R n
    = hid (fun j => aC m c (ix2 C j)) (fun j => aG m c (ix2 0 j)) (fun j => aMods m c (ix3 4 0 j)) (fun j => aMods m c (ix3 4 1 j)) (fun k n => aW m c (ix2 k n)) n := by
  have ht : (ptOf R).val = 0 := by show R.val / 1024 = 0; omega
  have hr : inOf R = C := Fin.ext (by show R.val % 1024 = C.val; omega)
  have hm : modOf (ptOf R).val = (4 : Fin 8).val := by rw [ht]; rfl
  unfold rowAt rowOf
  rw [src_zero _ ht, f2, f3 m c _ 0 4 hm, f3 m c _ 1 4 hm, f4, hr]
  exact congrArg (fun x => hid x _ _ _ _ n) (funext fun j => blk0_at m c _ C j)
/-- or of the latents. -/
theorem rowAt_lat (R : Fin 17408) (L : Fin 16384) (hL : R.val = L.val + 1024) (b : Fin 8) (hb : b.val = L.val / 4096) (n : Fin 2048) : rowAt m c R n
    = hid (fun j => aX m c (ix2 L j)) (fun j => aG m c (ix2 0 j)) (fun j => aMods m c (ix3 b 0 j)) (fun j => aMods m c (ix3 b 1 j)) (fun k n => aW m c (ix2 k n)) n := by
  have e : (ptOf R).val = R.val / 1024 := rfl
  have ht : (ptOf R).val ≠ 0 := by omega
  have hm : modOf (ptOf R).val = b.val := by
    unfold modOf
    rw [if_neg ht]
    omega
  unfold rowAt rowOf
  rw [src_pos _ ht, f2, f3 m c _ 0 b hm, f3 m c _ 1 b hm, f4]
  refine congrArg (fun x => hid x _ _ _ _ n) (funext fun j => (blk1_at m c _ (inOf R) j).trans (congrArg (fun k => aX m c (ix2 k j)) (Fin.ext ?_)))
  show (R.val / 1024 - 1) * 1024 + R.val % 1024 = L.val
  omega

end Cert.Kernel3Ideal.LruIn

end
-- ==== Proof.In.Reference.lean ====
module

public import proofs.«01_k».proof.Proof.Gen.Reference3Ideal.Run
public import proofs.«01_k».proof.Proof.In.Row
public import Idealize.ShloMosaic.Lib.Quiescent

@[expose] public section

set_option maxRecDepth 16384

noncomputable section

namespace Cert.Reference3Ideal.LruIn

open Cert.Reference3Ideal Cert.Reference3Ideal.Gen
open Idealize.ShloMosaic Idealize.ShloMosaic.TcCoe Idealize.SL.Sem
open Cert.Ffn (norm modn)
open Cert.LruIn

variable {F : FTy → Type} [FloatOps F]

/-! ## The reference's stages -/

section
variable (ctx : FVec F S1024x1024 .f32) (x : FVec F S16384x1024 .f32) (g : FVec F S1x1024 .f32) (mods : FVec F S8x6x1024 .f32) (w : FVec F S1024x2048 .bf16)

/-- The modulation rows of the four batches, -/
def mrows : FVec F S4x6x1x1024 .f32 :=
  broadcastInDim S4x6x1x1024 ![0, 1, 3] bcast_S4x6x1024_S4x6x1x1024_0_1_3 (extractStridedSlice S4x6x1024 ![0, 0, 0] mods slices_S8x6x1024_S4x6x1024_0_0_0)
/-- the two of them that are used, -/
def m0 : FVec F S4x1x1024 .f32 := shapeCast _ (extractStridedSlice S4x1x1x1024 ![0, 0, 0, 0] (mrows mods) slices_S4x6x1x1024_S4x1x1x1024_0_0_0_0) shapeCasts_S4x1x1x1024_S4x1x1024
def m1 : FVec F S4x1x1024 .f32 := shapeCast _ (extractStridedSlice S4x1x1x1024 ![0, 1, 0, 0] (mrows mods) slices_S4x6x1x1024_S4x1x1x1024_0_1_0_0) shapeCasts_S4x1x1x1024_S4x1x1024
def rep (v : FVec F S4x1x1024 .f32) : FVec F S4x4096x1024 .f32 := broadcastInDim S4x4096x1024 ![0, 1, 2] bcast_S4x1x1024_S4x4096x1024_0_1_2 v
/-- the context's modulation rows, -/
def crows : FVec F S6x1024 .f32 := shapeCast _ (extractStridedSlice S1x6x1024 ![4, 0, 0] mods slices_S8x6x1024_S1x6x1024_4_0_0) shapeCasts_S1x6x1024_S6x1024
def c0 : FVec F S1024 .f32 := shapeCast _ (extractStridedSlice S1x1024 ![0, 0] (crows mods) slices_S6x1024_S1x1024_0_0) shapeCasts_S1x1024_S1024
def c1 : FVec F S1024 .f32 := shapeCast _ (extractStridedSlice S1x1024 ![1, 0] (crows mods) slices_S6x1024_S1x1024_1_0) shapeCasts_S1x1024_S1024
/-- one of them repeated for every row of the context. -/
def crep (v : FVec F S1024 .f32) : FVec F S4x256x1024 .f32 :=
  broadcastInDim S4x256x1024 ![0, 1, 2] bcast_S1x1x1024_S4x256x1024_0_1_2 (broadcastInDim S1x1x1024 ![2] bcast_S1024_S1x1x1024_2 v)
/-- The latents's rows normalised, -/
def norm_lat (h : FVec F S4x4096x1024 .f32) : FVec F S4x4096x1024 .f32 :=
  mulf (mulf h (broadcastInDim S4x4096x1024 ![0, 1, 2] bcast_S4x4096x1_S4x4096x1024_0_1_2 (Host.rsqrt (addf
      (Host.divf (broadcastInDim S4x4096x1 ![0, 1] bcast_S4x4096_S4x4096x1_0_1 (Host.reduceAdd (mulf h h) (constant S_ .f32 0x00000000#32) reducesTo_S4x4096x1024_S4x4096_d2 h_S_))
        (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 (shapeCast _ g shapeCasts_S1x1024_S1024)))
/-- The context's rows normalised, -/
def norm_ctx (h : FVec F S4x256x1024 .f32) : FVec F S4x256x1024 .f32 :=
  mulf (mulf h (broadcastInDim S4x256x1024 ![0, 1, 2] bcast_S4x256x1_S4x256x1024_0_1_2 (Host.rsqrt (addf
      (Host.divf (broadcastInDim S4x256x1 ![0, 1] bcast_S4x256_S4x256x1_0_1 (Host.reduceAdd (mulf h h) (constant S_ .f32 0x00000000#32) reducesTo_S4x256x1024_S4x256_d2 h_S_))
        (broadcastInDim S4x256x1 ![] bcast_S_S4x256x1 (constant S_ .f32 0x44800000#32)))
      (broadcastInDim S4x256x1 ![] bcast_S_S4x256x1 (constant S_ .f32 0x358637BD#32))))))
    (broadcastInDim S4x256x1024 ![0, 1, 2] bcast_S1x1x1024_S4x256x1024_0_1_2 (broadcastInDim S1x1x1024 ![2] bcast_S1024_S1x1x1024_2 (shapeCast _ g shapeCasts_S1x1024_S1024)))
/-- scaled, shifted and multiplied by the weight, -/
def y_lat : FVec F S16384x2048 .f32 :=
  shapeCast _ (Host.dotGeneral dot_S4x4096x1024_S1024x2048_S4x4096x2048_2_0_01_1_n_n none
    (addf (mulf (norm_lat g (shapeCast _ x shapeCasts_S16384x1024_S4x4096x1024)) (rep (addf (broadcastInDim S4x1x1024 ![] bcast_S_S4x1x1024 (constant S_ .f32 0x3F800000#32)) (m1 mods)))) (rep (m0 mods)))
    (extf .f32 w bitsLt_bf16_f32)) shapeCasts_S4x4096x2048_S16384x2048
def y_ctx : FVec F S1024x2048 .f32 :=
  shapeCast _ (Host.dotGeneral dot_S4x256x1024_S1024x2048_S4x256x2048_2_0_01_1_n_n none
    (addf (mulf (norm_ctx g (shapeCast _ ctx shapeCasts_S1024x1024_S4x256x1024)) (crep (addf (broadcastInDim S1024 ![] bcast_S_S1024 (constant S_ .f32 0x3F800000#32)) (c1 mods)))) (crep (c0 mods)))
    (extf .f32 w bitsLt_bf16_f32)) shapeCasts_S4x256x2048_S1024x2048
/-- the context's ahead of the latents', -/
def y : FVec F S17408x2048 .f32 := concatenate S17408x2048 0 [⟨S1024x2048, y_ctx ctx g mods w⟩, ⟨S16384x2048, y_lat x g mods w⟩] concatenates_S1024x2048_S16384x2048_S17408x2048_d0
/-- its last columns, -/
def out1 : FVec F S17408x1024 .f32 := extractStridedSlice S17408x1024 ![0, 1024] (y ctx x g mods w) slices_S17408x2048_S17408x1024_0_1024
/-- and the smooth rectifier of its first. -/
def geluV (z : FVec F S17408x1024 .f32) : FVec F S17408x1024 .f32 :=
  mulf z (mulf (broadcastInDim S17408x1024 ![] bcast_S_S17408x1024 (constant S_ .f32 0x3F000000#32))
    (addf (broadcastInDim S17408x1024 ![] bcast_S_S17408x1024 (constant S_ .f32 0x3F800000#32))
      (Host.tanh (mulf (broadcastInDim S17408x1024 ![] bcast_S_S17408x1024 (constant S_ .f32 0x3F4C422A#32))
        (addf z (mulf (broadcastInDim S17408x1024 ![] bcast_S_S17408x1024 (constant S_ .f32 0x3D372713#32)) (mulf (mulf z z) z)))))))
def out0 : FVec F S17408x1024 .f32 := geluV (extractStridedSlice S17408x1024 ![0, 0] (y ctx x g mods w) slices_S17408x2048_S17408x1024_0_0)

end

theorem res0_eq (m : (ℓ : Loc nD τ sig) → Buf (Elt F) ℓ) (c : Dev nD) :
    Value.res_main_v76 m c = out0 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v76
  rfl
theorem res1_eq (m : (ℓ : Loc nD τ sig) → Buf (Elt F) ℓ) (c : Dev nD) :
    Value.res_main_v63 m c = out1 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v63
  rfl

/-- The reference ends with its values in the results, its arguments unchanged and its counters at zero. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v76) = out0 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_v63) = out1 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h c).1.trans (res0_eq m c), (h c).2.1.trans (res1_eq m c), (h c).2.2⟩, sem_eq_zero_of_no_sems (by decide) _⟩) (Value.run m ρ)

/-! ## The stages at an entry, over the extended reals -/

/-- Row `r` of batch `b` among the rows of all batches. -/
def flat (b : Fin 4) (r : Fin 4096) : Fin 16384 := ⟨b.val * 4096 + r.val, by omega⟩
def cflat (b : Fin 4) (r : Fin 256) : Fin 1024 := ⟨b.val * 256 + r.val, by omega⟩
def batch (b : Fin 4) : Fin 8 := ⟨b.val, by omega⟩

section
variable (ctx : FVec Ideal S1024x1024 .f32) (x : FVec Ideal S16384x1024 .f32) (g : FVec Ideal S1x1024 .f32) (mods : FVec Ideal S8x6x1024 .f32) (w : FVec Ideal S1024x2048 .bf16)
  (b : Fin 4) (j : Fin 1024) (n : Fin 2048)

section
variable (r : Fin 4096)
theorem m0_at : rep (m0 (F := Ideal) mods) (ix3 b r j) = mods (ix3 (batch b) 0 j) := by
  pointwise [rep, m0, mrows]
  rfl
theorem m1_at : rep (addf (broadcastInDim S4x1x1024 ![] bcast_S_S4x1x1024 (constant S_ .f32 0x3F800000#32)) (m1 (F := Ideal) mods)) (ix3 b r j)
    = 1 + mods (ix3 (batch b) 1 j) := by
  pointwise [rep, m1, mrows]
  rfl
theorem norm_lat_at (h : FVec Ideal S4x4096x1024 .f32) : norm_lat (F := Ideal) g h (ix3 b r j) = norm (fun j => h (ix3 b r j)) (fun j => g (ix2 0 j)) j := by
  pointwise [norm_lat]
  rfl
theorem rows_at : (shapeCast S4x4096x1024 x shapeCasts_S16384x1024_S4x4096x1024) (ix3 b r j) = x (ix2 (flat b r) j) := by
  pointwise
  rfl
theorem mod_lat_at : addf (F := Ideal) (mulf (norm_lat g (shapeCast S4x4096x1024 x shapeCasts_S16384x1024_S4x4096x1024)) (rep (addf (broadcastInDim S4x1x1024 ![] bcast_S_S4x1x1024 (constant S_ .f32 0x3F800000#32)) (m1 mods)))) (rep (m0 mods)) (ix3 b r j)
    = modn (fun j => x (ix2 (flat b r) j)) (fun j => g (ix2 0 j)) (fun j => mods (ix3 (batch b) 0 j)) (fun j => mods (ix3 (batch b) 1 j)) j := by
  unfold modn
  have e : norm (fun j => x (ix2 (flat b r) j)) (fun j => g (ix2 0 j)) j = norm_lat (F := Ideal) g (shapeCast S4x4096x1024 x shapeCasts_S16384x1024_S4x4096x1024) (ix3 b r j) := by
    rw [norm_lat_at]
    exact congrArg (fun h => norm h (fun j => g (ix2 0 j)) j) (funext fun j => (rows_at x b j r).symm)
  rw [e]
  exact congrArg₂ (· + ·) (congrArg (norm_lat (F := Ideal) g (shapeCast S4x4096x1024 x shapeCasts_S16384x1024_S4x4096x1024) (ix3 b r j) * ·) (m1_at mods b j r)) (m0_at mods b j r)
theorem y_lat_at (R : Fin 16384) (hR : R = flat b r) : y_lat (F := Ideal) x g mods w (ix2 R n)
    = hid (fun j => x (ix2 R j)) (fun j => g (ix2 0 j)) (fun j => mods (ix3 (batch b) 0 j)) (fun j => mods (ix3 (batch b) 1 j)) (fun k n => w (ix2 k n)) n := by
  subst hR
  have e : ∀ v : FVec Ideal S4x4096x2048 .f32, (shapeCast S16384x2048 v shapeCasts_S4x4096x2048_S16384x2048) (ix2 (flat b r) n) = v (ix3 b r n) := by
    intro v
    pointwise
    congr 1
    unfold flat
    congr 1 <;> apply Fin.ext <;> simp <;> omega
  unfold y_lat
  rw [e]
  unfold hid
  simp only [← mod_lat_at]
  generalize addf (F := Ideal) (mulf (norm_lat g (shapeCast S4x4096x1024 x shapeCasts_S16384x1024_S4x4096x1024)) _) _ = v
  pointwise
end

section
variable (r : Fin 256)
theorem c0_at : crep (c0 (F := Ideal) mods) (ix3 b r j) = mods (ix3 4 0 j) := by
  pointwise [crep, c0, crows]
theorem c1_at : crep (addf (broadcastInDim S1024 ![] bcast_S_S1024 (constant S_ .f32 0x3F800000#32)) (c1 (F := Ideal) mods)) (ix3 b r j)
    = 1 + mods (ix3 4 1 j) := by
  pointwise [crep, c1, crows]
theorem norm_ctx_at (h : FVec Ideal S4x256x1024 .f32) : norm_ctx (F := Ideal) g h (ix3 b r j) = norm (fun j => h (ix3 b r j)) (fun j => g (ix2 0 j)) j := by
  pointwise [norm_ctx]
  rfl
theorem crows_at : (shapeCast S4x256x1024 ctx shapeCasts_S1024x1024_S4x256x1024) (ix3 b r j) = ctx (ix2 (cflat b r) j) := by
  pointwise
  rfl
theorem mod_ctx_at : addf (F := Ideal) (mulf (norm_ctx g (shapeCast S4x256x1024 ctx shapeCasts_S1024x1024_S4x256x1024)) (crep (addf (broadcastInDim S1024 ![] bcast_S_S1024 (constant S_ .f32 0x3F800000#32)) (c1 mods)))) (crep (c0 mods)) (ix3 b r j)
    = modn (fun j => ctx (ix2 (cflat b r) j)) (fun j => g (ix2 0 j)) (fun j => mods (ix3 4 0 j)) (fun j => mods (ix3 4 1 j)) j := by
  unfold modn
  have e : norm (fun j => ctx (ix2 (cflat b r) j)) (fun j => g (ix2 0 j)) j = norm_ctx (F := Ideal) g (shapeCast S4x256x1024 ctx shapeCasts_S1024x1024_S4x256x1024) (ix3 b r j) := by
    rw [norm_ctx_at]
    exact congrArg (fun h => norm h (fun j => g (ix2 0 j)) j) (funext fun j => (crows_at ctx b j r).symm)
  rw [e]
  exact congrArg₂ (· + ·) (congrArg (norm_ctx (F := Ideal) g (shapeCast S4x256x1024 ctx shapeCasts_S1024x1024_S4x256x1024) (ix3 b r j) * ·) (c1_at mods b j r)) (c0_at mods b j r)
theorem y_ctx_at (R : Fin 1024) (hR : R = cflat b r) : y_ctx (F := Ideal) ctx g mods w (ix2 R n)
    = hid (fun j => ctx (ix2 R j)) (fun j => g (ix2 0 j)) (fun j => mods (ix3 4 0 j)) (fun j => mods (ix3 4 1 j)) (fun k n => w (ix2 k n)) n := by
  subst hR
  have e : ∀ v : FVec Ideal S4x256x2048 .f32, (shapeCast S1024x2048 v shapeCasts_S4x256x2048_S1024x2048) (ix2 (cflat b r) n) = v (ix3 b r n) := by
    intro v
    pointwise
    congr 1
    unfold cflat
    congr 1 <;> apply Fin.ext <;> simp <;> omega
  unfold y_ctx
  rw [e]
  unfold hid
  simp only [← mod_ctx_at]
  generalize addf (F := Ideal) (mulf (norm_ctx g (shapeCast S4x256x1024 ctx shapeCasts_S1024x1024_S4x256x1024)) _) _ = v
  pointwise
end

/-- A row of the product: the context's rows are the first 1024, -/
theorem y_at_ctx (R : Fin 17408) (C : Fin 1024) (hC : R.val = C.val) : y (F := Ideal) ctx x g mods w (ix2 R n)
    = hid (fun j => ctx (ix2 C j)) (fun j => g (ix2 0 j)) (fun j => mods (ix3 4 0 j)) (fun j => mods (ix3 4 1 j)) (fun k n => w (ix2 k n)) n := by
  have e : y (F := Ideal) ctx x g mods w (ix2 R n) = y_ctx ctx g mods w (ix2 C n) :=
    concatenate_pair_apply_left (s₁ := S1024x2048) (s₂ := S16384x2048) 0 _ _ _ (ix2 R n) rfl (ix2 C n) fun a => match a with
      | ⟨0, _⟩ => hC.symm
      | ⟨1, _⟩ => rfl
  have hb : C.val / 256 < 4 := by omega
  have hr : C.val % 256 < 256 := by omega
  exact e.trans (y_ctx_at ctx g mods w ⟨_, hb⟩ n ⟨_, hr⟩ C (Fin.ext (by show C.val = C.val / 256 * 256 + C.val % 256; omega)))
/-- the latents' the later ones. -/
theorem y_at_lat (R : Fin 17408) (L : Fin 16384) (hL : R.val = L.val + 1024) (b : Fin 8) (hb : b.val = L.val / 4096) : y (F := Ideal) ctx x g mods w (ix2 R n)
    = hid (fun j => x (ix2 L j)) (fun j => g (ix2 0 j)) (fun j => mods (ix3 b 0 j)) (fun j => mods (ix3 b 1 j)) (fun k n => w (ix2 k n)) n := by
  have e : y (F := Ideal) ctx x g mods w (ix2 R n) = y_lat x g mods w (ix2 L n) :=
    concatenate_pair_apply_right (s₁ := S1024x2048) (s₂ := S16384x2048) 0 _ _ _ (ix2 R n) rfl rfl (ix2 L n) (fun a ha => match a, ha with
      | ⟨0, _⟩, ha => absurd rfl ha
      | ⟨1, _⟩, _ => rfl) hL.symm
  have hb' : L.val / 4096 < 4 := by omega
  have hr : L.val % 4096 < 4096 := by omega
  have eb : b = batch ⟨L.val / 4096, hb'⟩ := Fin.ext hb
  rw [eb]
  exact e.trans (y_lat_at x g mods w ⟨_, hb'⟩ n ⟨_, hr⟩ L (Fin.ext (by show L.val = L.val / 4096 * 4096 + L.val % 4096; omega)))

theorem out1_at (R : Fin 17408) : out1 (F := Ideal) ctx x g mods w (ix2 R j) = y (F := Ideal) ctx x g mods w (ix2 R (hi j)) := by
  unfold out1
  generalize y (F := Ideal) ctx x g mods w = v
  pointwise
  rfl
theorem out0_at (R : Fin 17408) : out0 (F := Ideal) ctx x g mods w (ix2 R j) = gelu (y (F := Ideal) ctx x g mods w (ix2 R (lo j))) := by
  unfold out0 gelu
  generalize y (F := Ideal) ctx x g mods w = v
  rw [← mul_assoc (v (ix2 R (lo j))) (v (ix2 R (lo j))) (v (ix2 R (lo j)))]
  pointwise [geluV]
  rfl

end

end Cert.Reference3Ideal.LruIn

end
-- ==== Proof.In.Equal.lean ====
module

public import proofs.«01_k».proof.Proof.In.Value
public import proofs.«01_k».proof.Proof.In.Reference

@[expose] public section

set_option maxRecDepth 16384

noncomputable section

namespace Cert.LruIn

open Idealize.ShloMosaic Idealize.ShloMosaic.TcCoe Idealize.SL.Sem
open Cert.Kernel3Ideal.LruIn (res5 res6 res5_at res6_at rowAt rowAt_ctx rowAt_lat aC aX aG aMods aW)
open Cert.Reference3Ideal.LruIn (y y_at_ctx y_at_lat out0 out1 out0_at out1_at)

variable (m : (ℓ : Loc Cert.Kernel3Ideal.nD Cert.Kernel3Ideal.τ Cert.Kernel3Ideal.sig) → Buf (Elt Ideal) ℓ) (c : Dev Cert.Kernel3Ideal.nD)

/-- The product's rows are one, -/
theorem rowAt_eq_y (R : Fin 17408) (n : Fin 2048) : rowAt m c R n = y (F := Ideal) (aC m c) (aX m c) (aG m c) (aMods m c) (aW m c) (ix2 R n) := by
  by_cases h : R.val < 1024
  · exact (rowAt_ctx m c R ⟨R.val, h⟩ rfl n).trans (y_at_ctx _ _ _ _ _ n R ⟨R.val, h⟩ rfl).symm
  · have hl : R.val - 1024 < 16384 := by omega
    have hR : R.val = (⟨R.val - 1024, hl⟩ : Fin 16384).val + 1024 := by show R.val = R.val - 1024 + 1024; omega
    have hb : (R.val - 1024) / 4096 < 8 := by omega
    exact (rowAt_lat m c R ⟨R.val - 1024, hl⟩ hR ⟨(R.val - 1024) / 4096, hb⟩ rfl n).trans
      (y_at_lat _ _ _ _ _ n R ⟨R.val - 1024, hl⟩ hR ⟨(R.val - 1024) / 4096, hb⟩ rfl).symm

theorem ix_cases (i : Cert.Kernel3Ideal.S17408x1024.Idx) : ∃ (R : Fin 17408) (j : Fin 1024), i = ix2 R j := by
  refine ⟨i 0, i 1, funext fun a => ?_⟩
  match a with
  | ⟨0, _⟩ => rfl
  | ⟨1, _⟩ => rfl

/-- and so are the kernel's arrays and the reference's. -/
theorem res5_eq_out : (res5 m c : FVec Ideal Cert.Kernel3Ideal.S17408x1024 .f32)
    = out0 (F := Ideal) (aC m c) (aX m c) (aG m c) (aMods m c) (aW m c) := by
  funext i
  obtain ⟨R, j, rfl⟩ := ix_cases i
  exact (res5_at m c R j).trans ((congrArg gelu (rowAt_eq_y m c R (lo j))).trans (out0_at _ _ _ _ _ j R).symm)
theorem res6_eq_out : (res6 m c : FVec Ideal Cert.Kernel3Ideal.S17408x1024 .f32)
    = out1 (F := Ideal) (aC m c) (aX m c) (aG m c) (aMods m c) (aW m c) := by
  funext i
  obtain ⟨R, j, rfl⟩ := ix_cases i
  exact (res6_at m c R j).trans ((rowAt_eq_y m c R (hi j)).trans (out1_at _ _ _ _ _ j R).symm)

end Cert.LruIn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Kernel.Run
public import proofs.«01_k».proof.Proof.KernelIdeal.Run
public import proofs.«01_k».proof.Proof.ReferenceIdeal.Run
public import proofs.«01_k».proof.Proof.Value.Equal
public import proofs.«01_k».proof.Proof.Out.Equal
public import proofs.«01_k».proof.Proof.In.Equal

@[expose] public section

set_option maxRecDepth 16384

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite.Facts := Cert.Pre_finite.Gen.facts
instance : Cert.Kernel2.Facts := Cert.Kernel2.Gen.facts
instance : Cert.Kernel2Ideal.Facts := Cert.Kernel2Ideal.Gen.facts
instance : Cert.Reference2Ideal.Facts := Cert.Reference2Ideal.Gen.facts
instance : Cert.Kernel3.Facts := Cert.Kernel3.Gen.facts
instance : Cert.Kernel3Ideal.Facts := Cert.Kernel3Ideal.Gen.facts
instance : Cert.Reference3Ideal.Facts := Cert.Reference3Ideal.Gen.facts

/-! ## The attention call -/

theorem frame_kernel : Cert.quiescent_Kernel := fun m g _ =>
  (θ_run _ _ _).mono (fun _ h => ⟨fun c => (h.1 c).2, h.2⟩) (Cert.Kernel.Attn.run m g)
theorem frame_ideal : Cert.quiescent_KernelIdeal := fun m g _ =>
  (θ_run _ _ _).mono (fun _ h => ⟨fun c => (h.1 c).2, h.2⟩) (Cert.KernelIdeal.Attn.run m g)
theorem frame_ideal_finite : Cert.quiescent_KernelIdeal_pre_finite := fun m g _ =>
  (θ_run _ _ _).mono (fun _ h => ⟨fun c => (h.1 c).2, h.2⟩) (Cert.KernelIdeal.Attn.run m g)
theorem frame_reference : Cert.quiescent_ReferenceIdeal := fun m g _ =>
  (θ_run _ _ _).mono (fun _ h => ⟨fun c => (h.1 c).2, h.2⟩) (Cert.ReferenceIdeal.Attn.run m g)
theorem frame_reference_finite : Cert.quiescent_ReferenceIdeal_pre_finite := fun m g _ =>
  (θ_run _ _ _).mono (fun _ h => ⟨fun c => (h.1 c).2, h.2⟩) (Cert.ReferenceIdeal.Attn.run m g)

/-- The kernel and the reference have one value. -/
theorem value : Cert.algebraic_KernelIdeal_ReferenceIdeal_pre_finite := by
  intro m g m' g' hpre hargs
  refine ⟨fun c => Cert.KernelIdeal.Attn.attn (F := Ideal) m c,
    (θ_run _ _ _).mono (fun _ h c => h.1 c) (Cert.KernelIdeal.Attn.run m g),
    (θ_run _ _ _).mono (fun _ h c => ⟨(h.1 c).1.trans ?_, (h.1 c).2⟩) (Cert.ReferenceIdeal.Attn.run m' g')⟩
  obtain ⟨h0, h1, h2, h3, h4⟩ := hargs c
  obtain ⟨hq, hk, hc⟩ := Cert.Equal.finite_of_pre _ _ _ _ _ (hpre c)
  rw [h0, h1, h2, h3, h4]
  exact (Cert.Equal.attn_eq_out m c hq hk hc).symm

/-! ## The call after the attention -/

theorem frame_kernel2 : Cert.quiescent_Kernel2 := fun m g _ => Cert.Kernel2.Gen.frame m g
theorem frame_ideal2 : Cert.quiescent_Kernel2Ideal := fun m g _ => Cert.Kernel2Ideal.Gen.frame m g
theorem frame_reference2 : Cert.quiescent_Reference2Ideal := fun m g _ =>
  (θ_run _ _ _).mono (fun _ h => ⟨fun c => (h.1 c).2, h.2⟩) (Cert.Reference2Ideal.Ffn.run m g)

/-- The kernel and the reference have one value. -/
theorem value2 : Cert.algebraic_Kernel2Ideal_Reference2Ideal := by
  intro m g m' g' _ hargs
  refine ⟨fun c => Cert.Kernel2Ideal.Ffn.res m c,
    (θ_run _ _ _).mono (fun _ h c => ⟨(h c).1.trans (Cert.Kernel2Ideal.Ffn.final_o m c), (h c).2⟩) (Cert.Kernel2Ideal.Value.run_blocks m g),
    (θ_run _ _ _).mono (fun _ h c => ⟨(h.1 c).1.trans ?_, (h.1 c).2⟩) (Cert.Reference2Ideal.Ffn.run m' g')⟩
  obtain ⟨h0, h1, h2, h3, h4, h5, h6, h7⟩ := hargs c
  rw [h0, h1, h2, h3, h4, h5, h6, h7]
  exact (Cert.Ffn.res_eq_out m c).symm

/-! ## The call ahead of the recurrence -/

theorem frame_kernel3 : Cert.quiescent_Kernel3 := fun m g _ => Cert.Kernel3.Gen.frame m g
theorem frame_ideal3 : Cert.quiescent_Kernel3Ideal := fun m g _ => Cert.Kernel3Ideal.Gen.frame m g
theorem frame_reference3 : Cert.quiescent_Reference3Ideal := fun m g _ =>
  (θ_run _ _ _).mono (fun _ h => ⟨fun c => (h.1 c).2.2, h.2⟩) (Cert.Reference3Ideal.LruIn.run m g)

/-- The kernel and the reference have the same two values. -/
theorem value3 : Cert.algebraic_Kernel3Ideal_Reference3Ideal := by
  intro m g m' g' _ hargs
  refine ⟨fun c => Cert.Kernel3Ideal.LruIn.res5 m c, fun c => Cert.Kernel3Ideal.LruIn.res6 m c,
    (θ_run _ _ _).mono (fun _ h c => ⟨(h c).1.trans (Cert.Kernel3Ideal.LruIn.final5 m c), (h c).2.1.trans (Cert.Kernel3Ideal.LruIn.final6 m c), (h c).2.2⟩)
      (Cert.Kernel3Ideal.Value.run_blocks m g),
    (θ_run _ _ _).mono (fun _ h c => ⟨(h.1 c).1.trans ?_, (h.1 c).2.1.trans ?_, (h.1 c).2.2⟩) (Cert.Reference3Ideal.LruIn.run m' g')⟩
  · obtain ⟨h0, h1, h2, h3, h4⟩ := hargs c
    rw [h0, h1, h2, h3, h4]
    exact (Cert.LruIn.res5_eq_out m c).symm
  · obtain ⟨h0, h1, h2, h3, h4⟩ := hargs c
    rw [h0, h1, h2, h3, h4]
    exact (Cert.LruIn.res6_eq_out m c).symm

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Pre_finite.Gen.facts, frame_kernel, frame_ideal, frame_ideal_finite, frame_reference, frame_reference_finite, frame_kernel2, frame_ideal2,
  frame_reference2, frame_kernel3, frame_ideal3, frame_reference3, trivial, value, trivial, value2, trivial, value3⟩

end Cert.Proof

end
